-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_3)) (v3 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v1_3) = v2 c
          ∧ r.2.mem ((c.tc : Thread Cert.KernelIdeal.nD Cert.KernelIdeal.τ).loc Cert.KernelIdeal.main_v1_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x256x128 : Shape := ⟨4, ![8, 256, 256, 128]⟩
abbrev S8x256x256 : Shape := ⟨3, ![8, 256, 256]⟩
abbrev S1x128 : Shape := ⟨2, ![1, 128]⟩
abbrev S1 : Shape := ⟨1, ![1]⟩
abbrev S1x1 : Shape := ⟨2, ![1, 1]⟩
abbrev S8x255x256 : Shape := ⟨3, ![8, 255, 256]⟩
abbrev S1x256x256 : Shape := ⟨3, ![1, 256, 256]⟩
abbrev S1x32x256 : Shape := ⟨3, ![1, 32, 256]⟩
abbrev S1x255x256 : Shape := ⟨3, ![1, 255, 256]⟩
abbrev S6x32x256x128 : Shape := ⟨4, ![6, 32, 256, 128]⟩
abbrev S6 : Shape := ⟨1, ![6]⟩
abbrev S_ : Shape := ⟨0, ![]⟩
abbrev S1x32x256x128 : Shape := ⟨4, ![1, 32, 256, 128]⟩
abbrev S32x256x128 : Shape := ⟨3, ![32, 256, 128]⟩
abbrev S1x1x256x128 : Shape := ⟨4, ![1, 1, 256, 128]⟩
abbrev S256x128 : Shape := ⟨2, ![256, 128]⟩
abbrev S1x256 : Shape := ⟨2, ![1, 256]⟩
abbrev S32x256 : Shape := ⟨2, ![32, 256]⟩
abbrev S256x256 : Shape := ⟨2, ![256, 256]⟩
abbrev S256 : Shape := ⟨1, ![256]⟩
abbrev S256x1 : Shape := ⟨2, ![256, 1]⟩
abbrev S255x256 : Shape := ⟨2, ![255, 256]⟩
abbrev S8x255x256x1 : Shape := ⟨4, ![8, 255, 256, 1]⟩
abbrev S8x255x256x2 : Shape := ⟨4, ![8, 255, 256, 2]⟩

abbrev nBuf : Space → Nat
  | .hbm => 13
  | .vmem => 15
  | .smem => 0
  | _ => 0

abbrev bufTy : (tb : Table) → Fin (tcTables nBuf tb) → BufTy
  | .hbm, ⟨0, _⟩ => ⟨S8x256x256x128, .f32⟩
  | .hbm, ⟨1, _⟩ => ⟨S8x256x256, .f32⟩
  | .hbm, ⟨2, _⟩ => ⟨S1x128, .f32⟩
  | .hbm, ⟨3, _⟩ => ⟨S1, .f32⟩
  | .hbm, ⟨4, _⟩ => ⟨S1x1, .f32⟩
  | .hbm, ⟨5, _⟩ => ⟨S8x255x256, .f32⟩
  | .hbm, ⟨6, _⟩ => ⟨S8x255x256, .f32⟩
  | .hbm, ⟨7, _⟩ => ⟨S8x256x256, .f32⟩
  | .hbm, ⟨8, _⟩ => ⟨S8x255x256, .f32⟩
  | .hbm, ⟨9, _⟩ => ⟨S8x255x256, .f32⟩
  | .hbm, ⟨10, _⟩ => ⟨S8x255x256x1, .f32⟩
  | .hbm, ⟨11, _⟩ => ⟨S8x255x256x1, .f32⟩
  | .hbm, ⟨12, _⟩ => ⟨S8x255x256x2, .f32⟩
  | .local _ .vmem, ⟨0, _⟩ => ⟨S1x128, .f32⟩
  | .local _ .vmem, ⟨1, _⟩ => ⟨S1x1, .f32⟩
  | .local _ .vmem, ⟨2, _⟩ => ⟨S1x256x256, .f32⟩
  | .local _ .vmem, ⟨3, _⟩ => ⟨S1x256x256, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x256x256, .f32⟩
  | .local _ .vmem, ⟨9, _⟩ => ⟨S1x256x256, .f32⟩
  | .local _ .vmem, ⟨10, _⟩ => ⟨S1x255x256, .f32⟩
  | .local _ .vmem, ⟨11, _⟩ => ⟨S1x255x256, .f32⟩
  | .local _ .vmem, ⟨12, _⟩ => ⟨S1x255x256, .f32⟩
  | .local _ .vmem, ⟨13, _⟩ => ⟨S1x255x256, .f32⟩
  | .local _ .vmem, ⟨14, _⟩ => ⟨S6x32x256x128, .f32⟩
  | _, _ => ⟨S8x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_18 : BitVec 32 := 6#32
  let c0_i32_19 : BitVec 32 := 0#32
  let v43 : BitVec 1 := Scalar.cmpi .eq c6_i32_18 c0_i32_19
  let c1_i32_20 : BitVec 32 := 1#32
  let v44 : BitVec 32 := Scalar.select v43 c1_i32_20 c6_i32_18
  let v45 : BitVec 32 := Scalar.remsi v1 v44
  let c0_i32_22 : BitVec 32 := 0#32
  let v47 : BitVec 1 := Scalar.cmpi .slt v45 c0_i32_22
  let c0_i32_23 : BitVec 32 := 0#32
  let v48 : BitVec 1 := Scalar.cmpi .slt v44 c0_i32_23
  let v49 : BitVec 1 := Scalar.xori v47 v48
  let c0_i32_21 : BitVec 32 := 0#32
  let v46 : BitVec 1 := Scalar.cmpi .ne v45 c0_i32_21
  let v50 : BitVec 1 := Scalar.andi v49 v46
  let v51 : BitVec 32 := Scalar.addi v45 v44
  let v52 : BitVec 32 := Scalar.select v50 v51 v45
  ![v52.toNat]
def k0_off2 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32 : BitVec 32 := 6#32
  let c0_i32_13 : BitVec 32 := 0#32
  let v33 : BitVec 1 := Scalar.cmpi .eq c6_i32 c0_i32_13
  let c1_i32_14 : BitVec 32 := 1#32
  let v34 : BitVec 32 := Scalar.select v33 c1_i32_14 c6_i32
  let v35 : BitVec 32 := Scalar.remsi v1 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c0_i32_24 : BitVec 32 := 0#32
  let c0_i32_25 : BitVec 32 := 0#32
  let c0_i32_26 : BitVec 32 := 0#32
  ![v42.toNat, 0, 0, 0]
def k0_off3 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_2 : BitVec 32 := 0#32
  let v6 : BitVec 1 := Scalar.cmpi .sgt v1 c0_i32_2
  let v7 : BitVec 32 := Scalar.extui v6
  let c0_i32_3 : BitVec 32 := 0#32
  let v8 : BitVec 1 := Scalar.cmpi .slt v1 c0_i32_3
  let v9 : BitVec 32 := Scalar.extui v8
  let v10 : BitVec 32 := Scalar.subi v7 v9
  let c8_i32_1 : BitVec 32 := 8#32
  let c0_i32_4 : BitVec 32 := 0#32
  let v11 : BitVec 1 := Scalar.cmpi .sgt c8_i32_1 c0_i32_4
  let v12 : BitVec 32 := Scalar.extui v11
  let c0_i32_5 : BitVec 32 := 0#32
  let v13 : BitVec 1 := Scalar.cmpi .slt c8_i32_1 c0_i32_5
  let v14 : BitVec 32 := Scalar.extui v13
  let v15 : BitVec 32 := Scalar.subi v12 v14
  let v16 : BitVec 1 := Scalar.cmpi .ne v10 v15
  let v17 : BitVec 32 := Scalar.remsi v1 c8_i32_1
  let c0_i32_6 : BitVec 32 := 0#32
  let v18 : BitVec 1 := Scalar.cmpi .ne v17 c0_i32_6
  let v19 : BitVec 1 := Scalar.andi v16 v18
  let v5 : BitVec 32 := Scalar.divsi v1 c8_i32_1
  let c1_i32 : BitVec 32 := 1#32
  let v20 : BitVec 32 := Scalar.subi v5 c1_i32
  let v21 : BitVec 32 := Scalar.select v19 v20 v5
  let c8_i32_7 : BitVec 32 := 8#32
  let c0_i32_8 : BitVec 32 := 0#32
  let v22 : BitVec 1 := Scalar.cmpi .eq c8_i32_7 c0_i32_8
  let c1_i32_9 : BitVec 32 := 1#32
  let v23 : BitVec 32 := Scalar.select v22 c1_i32_9 c8_i32_7
  let v24 : BitVec 32 := Scalar.remsi v1 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c32_i32 : BitVec 32 := 32#32
  let v32 : BitVec 32 := Scalar.muli v31 c32_i32
  let c0_i32_27 : BitVec 32 := 0#32
  let c0_i32_28 : BitVec 32 := 0#32
  ![v21.toNat, v32.toNat, 0, 0]
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_29 : BitVec 32 := 6#32
  let v59 : BitVec 32 := Scalar.addi v1 c6_i32_29
  let c1_i32_30 : BitVec 32 := 1#32
  let v60 : BitVec 32 := Scalar.subi v59 c1_i32_30
  let c64_i32 : BitVec 32 := 64#32
  let v61 : BitVec 1 := Scalar.cmpi .slt v60 c64_i32
  let v62 : BitVec 32 := Scalar.extui v61
  let c0_i32_31 : BitVec 32 := 0#32
  let v63 : BitVec 1 := Scalar.cmpi .ne v62 c0_i32_31
  v63

def k0_off4 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_397 : BitVec 32 := 6#32
  let v577 : BitVec 32 := Scalar.addi v1 c6_i32_397
  let c1_i32_398 : BitVec 32 := 1#32
  let v578 : BitVec 32 := Scalar.subi v577 c1_i32_398
  let c6_i32_419 : BitVec 32 := 6#32
  let c0_i32_420 : BitVec 32 := 0#32
  let v617 : BitVec 1 := Scalar.cmpi .eq c6_i32_419 c0_i32_420
  let c1_i32_421 : BitVec 32 := 1#32
  let v618 : BitVec 32 := Scalar.select v617 c1_i32_421 c6_i32_419
  let v619 : BitVec 32 := Scalar.remsi v578 v618
  let c0_i32_423 : BitVec 32 := 0#32
  let v621 : BitVec 1 := Scalar.cmpi .slt v619 c0_i32_423
  let c0_i32_424 : BitVec 32 := 0#32
  let v622 : BitVec 1 := Scalar.cmpi .slt v618 c0_i32_424
  let v623 : BitVec 1 := Scalar.xori v621 v622
  let c0_i32_422 : BitVec 32 := 0#32
  let v620 : BitVec 1 := Scalar.cmpi .ne v619 c0_i32_422
  let v624 : BitVec 1 := Scalar.andi v623 v620
  let v625 : BitVec 32 := Scalar.addi v619 v618
  let v626 : BitVec 32 := Scalar.select v624 v625 v619
  ![v626.toNat]
def k0_off5 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_397 : BitVec 32 := 6#32
  let v577 : BitVec 32 := Scalar.addi v1 c6_i32_397
  let c1_i32_398 : BitVec 32 := 1#32
  let v578 : BitVec 32 := Scalar.subi v577 c1_i32_398
  let c6_i32_413 : BitVec 32 := 6#32
  let c0_i32_414 : BitVec 32 := 0#32
  let v607 : BitVec 1 := Scalar.cmpi .eq c6_i32_413 c0_i32_414
  let c1_i32_415 : BitVec 32 := 1#32
  let v608 : BitVec 32 := Scalar.select v607 c1_i32_415 c6_i32_413
  let v609 : BitVec 32 := Scalar.remsi v578 v608
  let c0_i32_417 : BitVec 32 := 0#32
  let v611 : BitVec 1 := Scalar.cmpi .slt v609 c0_i32_417
  let c0_i32_418 : BitVec 32 := 0#32
  let v612 : BitVec 1 := Scalar.cmpi .slt v608 c0_i32_418
  let v613 : BitVec 1 := Scalar.xori v611 v612
  let c0_i32_416 : BitVec 32 := 0#32
  let v610 : BitVec 1 := Scalar.cmpi .ne v609 c0_i32_416
  let v614 : BitVec 1 := Scalar.andi v613 v610
  let v615 : BitVec 32 := Scalar.addi v609 v608
  let v616 : BitVec 32 := Scalar.select v614 v615 v609
  let c0_i32_425 : BitVec 32 := 0#32
  let c0_i32_426 : BitVec 32 := 0#32
  let c0_i32_427 : BitVec 32 := 0#32
  ![v616.toNat, 0, 0, 0]
def k0_off6 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_397 : BitVec 32 := 6#32
  let v577 : BitVec 32 := Scalar.addi v1 c6_i32_397
  let c1_i32_398 : BitVec 32 := 1#32
  let v578 : BitVec 32 := Scalar.subi v577 c1_i32_398
  let c0_i32_400 : BitVec 32 := 0#32
  let v580 : BitVec 1 := Scalar.cmpi .sgt v578 c0_i32_400
  let v581 : BitVec 32 := Scalar.extui v580
  let c0_i32_401 : BitVec 32 := 0#32
  let v582 : BitVec 1 := Scalar.cmpi .slt v578 c0_i32_401
  let v583 : BitVec 32 := Scalar.extui v582
  let v584 : BitVec 32 := Scalar.subi v581 v583
  let c8_i32_399 : BitVec 32 := 8#32
  let c0_i32_402 : BitVec 32 := 0#32
  let v585 : BitVec 1 := Scalar.cmpi .sgt c8_i32_399 c0_i32_402
  let v586 : BitVec 32 := Scalar.extui v585
  let c0_i32_403 : BitVec 32 := 0#32
  let v587 : BitVec 1 := Scalar.cmpi .slt c8_i32_399 c0_i32_403
  let v588 : BitVec 32 := Scalar.extui v587
  let v589 : BitVec 32 := Scalar.subi v586 v588
  let v590 : BitVec 1 := Scalar.cmpi .ne v584 v589
  let v591 : BitVec 32 := Scalar.remsi v578 c8_i32_399
  let c0_i32_404 : BitVec 32 := 0#32
  let v592 : BitVec 1 := Scalar.cmpi .ne v591 c0_i32_404
  let v593 : BitVec 1 := Scalar.andi v590 v592
  let v579 : BitVec 32 := Scalar.divsi v578 c8_i32_399
  let c1_i32_405 : BitVec 32 := 1#32
  let v594 : BitVec 32 := Scalar.subi v579 c1_i32_405
  let v595 : BitVec 32 := Scalar.select v593 v594 v579
  let c8_i32_406 : BitVec 32 := 8#32
  let c0_i32_407 : BitVec 32 := 0#32
  let v596 : BitVec 1 := Scalar.cmpi .eq c8_i32_406 c0_i32_407
  let c1_i32_408 : BitVec 32 := 1#32
  let v597 : BitVec 32 := Scalar.select v596 c1_i32_408 c8_i32_406
  let v598 : BitVec 32 := Scalar.remsi v578 v597
  let c0_i32_410 : BitVec 32 := 0#32
  let v600 : BitVec 1 := Scalar.cmpi .slt v598 c0_i32_410
  let c0_i32_411 : BitVec 32 := 0#32
  let v601 : BitVec 1 := Scalar.cmpi .slt v597 c0_i32_411
  let v602 : BitVec 1 := Scalar.xori v600 v601
  let c0_i32_409 : BitVec 32 := 0#32
  let v599 : BitVec 1 := Scalar.cmpi .ne v598 c0_i32_409
  let v603 : BitVec 1 := Scalar.andi v602 v599
  let v604 : BitVec 32 := Scalar.addi v598 v597
  let v605 : BitVec 32 := Scalar.select v603 v604 v598
  let c32_i32_412 : BitVec 32 := 32#32
  let v606 : BitVec 32 := Scalar.muli v605 c32_i32_412
  let c0_i32_428 : BitVec 32 := 0#32
  let c0_i32_429 : BitVec 32 := 0#32
  ![v595.toNat, v606.toNat, 0, 0]
def k0_off7 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_33 : BitVec 32 := 6#32
  let c0_i32_34 : BitVec 32 := 0#32
  let v65 : BitVec 1 := Scalar.cmpi .eq c6_i32_33 c0_i32_34
  let c1_i32_35 : BitVec 32 := 1#32
  let v66 : BitVec 32 := Scalar.select v65 c1_i32_35 c6_i32_33
  let v67 : BitVec 32 := Scalar.remsi v1 v66
  let c0_i32_37 : BitVec 32 := 0#32
  let v69 : BitVec 1 := Scalar.cmpi .slt v67 c0_i32_37
  let c0_i32_38 : BitVec 32 := 0#32
  let v70 : BitVec 1 := Scalar.cmpi .slt v66 c0_i32_38
  let v71 : BitVec 1 := Scalar.xori v69 v70
  let c0_i32_36 : BitVec 32 := 0#32
  let v68 : BitVec 1 := Scalar.cmpi .ne v67 c0_i32_36
  let v72 : BitVec 1 := Scalar.andi v71 v68
  let v73 : BitVec 32 := Scalar.addi v67 v66
  let v74 : BitVec 32 := Scalar.select v72 v73 v67
  let v75 : Index := Scalar.indexCast v74
  let c0_39 : Index := 0#32
  let c0_40 : Index := 0#32
  let c0_41 : Index := 0#32
  ![v75.toNat, 0, 0, 0]
def k0_off8 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_44 : BitVec 32 := 6#32
  let c0_i32_45 : BitVec 32 := 0#32
  let v80 : BitVec 1 := Scalar.cmpi .eq c6_i32_44 c0_i32_45
  let c1_i32_46 : BitVec 32 := 1#32
  let v81 : BitVec 32 := Scalar.select v80 c1_i32_46 c6_i32_44
  let v82 : BitVec 32 := Scalar.remsi v1 v81
  let c0_i32_48 : BitVec 32 := 0#32
  let v84 : BitVec 1 := Scalar.cmpi .slt v82 c0_i32_48
  let c0_i32_49 : BitVec 32 := 0#32
  let v85 : BitVec 1 := Scalar.cmpi .slt v81 c0_i32_49
  let v86 : BitVec 1 := Scalar.xori v84 v85
  let c0_i32_47 : BitVec 32 := 0#32
  let v83 : BitVec 1 := Scalar.cmpi .ne v82 c0_i32_47
  let v87 : BitVec 1 := Scalar.andi v86 v83
  let v88 : BitVec 32 := Scalar.addi v82 v81
  let v89 : BitVec 32 := Scalar.select v87 v88 v82
  let v90 : Index := Scalar.indexCast v89
  let c1 : Index := 1#32
  let c0_50 : Index := 0#32
  let c0_51 : Index := 0#32
  ![v90.toNat, 1, 0, 0]
def k0_off9 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_55 : BitVec 32 := 6#32
  let c0_i32_56 : BitVec 32 := 0#32
  let v95 : BitVec 1 := Scalar.cmpi .eq c6_i32_55 c0_i32_56
  let c1_i32_57 : BitVec 32 := 1#32
  let v96 : BitVec 32 := Scalar.select v95 c1_i32_57 c6_i32_55
  let v97 : BitVec 32 := Scalar.remsi v1 v96
  let c0_i32_59 : BitVec 32 := 0#32
  let v99 : BitVec 1 := Scalar.cmpi .slt v97 c0_i32_59
  let c0_i32_60 : BitVec 32 := 0#32
  let v100 : BitVec 1 := Scalar.cmpi .slt v96 c0_i32_60
  let v101 : BitVec 1 := Scalar.xori v99 v100
  let c0_i32_58 : BitVec 32 := 0#32
  let v98 : BitVec 1 := Scalar.cmpi .ne v97 c0_i32_58
  let v102 : BitVec 1 := Scalar.andi v101 v98
  let v103 : BitVec 32 := Scalar.addi v97 v96
  let v104 : BitVec 32 := Scalar.select v102 v103 v97
  let v105 : Index := Scalar.indexCast v104
  let c2 : Index := 2#32
  let c0_61 : Index := 0#32
  let c0_62 : Index := 0#32
  ![v105.toNat, 2, 0, 0]
def k0_off10 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_66 : BitVec 32 := 6#32
  let c0_i32_67 : BitVec 32 := 0#32
  let v110 : BitVec 1 := Scalar.cmpi .eq c6_i32_66 c0_i32_67
  let c1_i32_68 : BitVec 32 := 1#32
  let v111 : BitVec 32 := Scalar.select v110 c1_i32_68 c6_i32_66
  let v112 : BitVec 32 := Scalar.remsi v1 v111
  let c0_i32_70 : BitVec 32 := 0#32
  let v114 : BitVec 1 := Scalar.cmpi .slt v112 c0_i32_70
  let c0_i32_71 : BitVec 32 := 0#32
  let v115 : BitVec 1 := Scalar.cmpi .slt v111 c0_i32_71
  let v116 : BitVec 1 := Scalar.xori v114 v115
  let c0_i32_69 : BitVec 32 := 0#32
  let v113 : BitVec 1 := Scalar.cmpi .ne v112 c0_i32_69
  let v117 : BitVec 1 := Scalar.andi v116 v113
  let v118 : BitVec 32 := Scalar.addi v112 v111
  let v119 : BitVec 32 := Scalar.select v117 v118 v112
  let v120 : Index := Scalar.indexCast v119
  let c3 : Index := 3#32
  let c0_72 : Index := 0#32
  let c0_73 : Index := 0#32
  ![v120.toNat, 3, 0, 0]
def k0_off11 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_77 : BitVec 32 := 6#32
  let c0_i32_78 : BitVec 32 := 0#32
  let v125 : BitVec 1 := Scalar.cmpi .eq c6_i32_77 c0_i32_78
  let c1_i32_79 : BitVec 32 := 1#32
  let v126 : BitVec 32 := Scalar.select v125 c1_i32_79 c6_i32_77
  let v127 : BitVec 32 := Scalar.remsi v1 v126
  let c0_i32_81 : BitVec 32 := 0#32
  let v129 : BitVec 1 := Scalar.cmpi .slt v127 c0_i32_81
  let c0_i32_82 : BitVec 32 := 0#32
  let v130 : BitVec 1 := Scalar.cmpi .slt v126 c0_i32_82
  let v131 : BitVec 1 := Scalar.xori v129 v130
  let c0_i32_80 : BitVec 32 := 0#32
  let v128 : BitVec 1 := Scalar.cmpi .ne v127 c0_i32_80
  let v132 : BitVec 1 := Scalar.andi v131 v128
  let v133 : BitVec 32 := Scalar.addi v127 v126
  let v134 : BitVec 32 := Scalar.select v132 v133 v127
  let v135 : Index := Scalar.indexCast v134
  let c4 : Index := 4#32
  let c0_83 : Index := 0#32
  let c0_84 : Index := 0#32
  ![v135.toNat, 4, 0, 0]
def k0_off12 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_88 : BitVec 32 := 6#32
  let c0_i32_89 : BitVec 32 := 0#32
  let v140 : BitVec 1 := Scalar.cmpi .eq c6_i32_88 c0_i32_89
  let c1_i32_90 : BitVec 32 := 1#32
  let v141 : BitVec 32 := Scalar.select v140 c1_i32_90 c6_i32_88
  let v142 : BitVec 32 := Scalar.remsi v1 v141
  let c0_i32_92 : BitVec 32 := 0#32
  let v144 : BitVec 1 := Scalar.cmpi .slt v142 c0_i32_92
  let c0_i32_93 : BitVec 32 := 0#32
  let v145 : BitVec 1 := Scalar.cmpi .slt v141 c0_i32_93
  let v146 : BitVec 1 := Scalar.xori v144 v145
  let c0_i32_91 : BitVec 32 := 0#32
  let v143 : BitVec 1 := Scalar.cmpi .ne v142 c0_i32_91
  let v147 : BitVec 1 := Scalar.andi v146 v143
  let v148 : BitVec 32 := Scalar.addi v142 v141
  let v149 : BitVec 32 := Scalar.select v147 v148 v142
  let v150 : Index := Scalar.indexCast v149
  let c5 : Index := 5#32
  let c0_94 : Index := 0#32
  let c0_95 : Index := 0#32
  ![v150.toNat, 5, 0, 0]
def k0_off13 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_99 : BitVec 32 := 6#32
  let c0_i32_100 : BitVec 32 := 0#32
  let v155 : BitVec 1 := Scalar.cmpi .eq c6_i32_99 c0_i32_100
  let c1_i32_101 : BitVec 32 := 1#32
  let v156 : BitVec 32 := Scalar.select v155 c1_i32_101 c6_i32_99
  let v157 : BitVec 32 := Scalar.remsi v1 v156
  let c0_i32_103 : BitVec 32 := 0#32
  let v159 : BitVec 1 := Scalar.cmpi .slt v157 c0_i32_103
  let c0_i32_104 : BitVec 32 := 0#32
  let v160 : BitVec 1 := Scalar.cmpi .slt v156 c0_i32_104
  let v161 : BitVec 1 := Scalar.xori v159 v160
  let c0_i32_102 : BitVec 32 := 0#32
  let v158 : BitVec 1 := Scalar.cmpi .ne v157 c0_i32_102
  let v162 : BitVec 1 := Scalar.andi v161 v158
  let v163 : BitVec 32 := Scalar.addi v157 v156
  let v164 : BitVec 32 := Scalar.select v162 v163 v157
  let v165 : Index := Scalar.indexCast v164
  let c6 : Index := 6#32
  let c0_105 : Index := 0#32
  let c0_106 : Index := 0#32
  ![v165.toNat, 6, 0, 0]
def k0_off14 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_110 : BitVec 32 := 6#32
  let c0_i32_111 : BitVec 32 := 0#32
  let v170 : BitVec 1 := Scalar.cmpi .eq c6_i32_110 c0_i32_111
  let c1_i32_112 : BitVec 32 := 1#32
  let v171 : BitVec 32 := Scalar.select v170 c1_i32_112 c6_i32_110
  let v172 : BitVec 32 := Scalar.remsi v1 v171
  let c0_i32_114 : BitVec 32 := 0#32
  let v174 : BitVec 1 := Scalar.cmpi .slt v172 c0_i32_114
  let c0_i32_115 : BitVec 32 := 0#32
  let v175 : BitVec 1 := Scalar.cmpi .slt v171 c0_i32_115
  let v176 : BitVec 1 := Scalar.xori v174 v175
  let c0_i32_113 : BitVec 32 := 0#32
  let v173 : BitVec 1 := Scalar.cmpi .ne v172 c0_i32_113
  let v177 : BitVec 1 := Scalar.andi v176 v173
  let v178 : BitVec 32 := Scalar.addi v172 v171
  let v179 : BitVec 32 := Scalar.select v177 v178 v172
  let v180 : Index := Scalar.indexCast v179
  let c7 : Index := 7#32
  let c0_116 : Index := 0#32
  let c0_117 : Index := 0#32
  ![v180.toNat, 7, 0, 0]
def k0_off15 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_121 : BitVec 32 := 6#32
  let c0_i32_122 : BitVec 32 := 0#32
  let v185 : BitVec 1 := Scalar.cmpi .eq c6_i32_121 c0_i32_122
  let c1_i32_123 : BitVec 32 := 1#32
  let v186 : BitVec 32 := Scalar.select v185 c1_i32_123 c6_i32_121
  let v187 : BitVec 32 := Scalar.remsi v1 v186
  let c0_i32_125 : BitVec 32 := 0#32
  let v189 : BitVec 1 := Scalar.cmpi .slt v187 c0_i32_125
  let c0_i32_126 : BitVec 32 := 0#32
  let v190 : BitVec 1 := Scalar.cmpi .slt v186 c0_i32_126
  let v191 : BitVec 1 := Scalar.xori v189 v190
  let c0_i32_124 : BitVec 32 := 0#32
  let v188 : BitVec 1 := Scalar.cmpi .ne v187 c0_i32_124
  let v192 : BitVec 1 := Scalar.andi v191 v188
  let v193 : BitVec 32 := Scalar.addi v187 v186
  let v194 : BitVec 32 := Scalar.select v192 v193 v187
  let v195 : Index := Scalar.indexCast v194
  let c8 : Index := 8#32
  let c0_127 : Index := 0#32
  let c0_128 : Index := 0#32
  ![v195.toNat, 8, 0, 0]
def k0_off16 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_132 : BitVec 32 := 6#32
  let c0_i32_133 : BitVec 32 := 0#32
  let v200 : BitVec 1 := Scalar.cmpi .eq c6_i32_132 c0_i32_133
  let c1_i32_134 : BitVec 32 := 1#32
  let v201 : BitVec 32 := Scalar.select v200 c1_i32_134 c6_i32_132
  let v202 : BitVec 32 := Scalar.remsi v1 v201
  let c0_i32_136 : BitVec 32 := 0#32
  let v204 : BitVec 1 := Scalar.cmpi .slt v202 c0_i32_136
  let c0_i32_137 : BitVec 32 := 0#32
  let v205 : BitVec 1 := Scalar.cmpi .slt v201 c0_i32_137
  let v206 : BitVec 1 := Scalar.xori v204 v205
  let c0_i32_135 : BitVec 32 := 0#32
  let v203 : BitVec 1 := Scalar.cmpi .ne v202 c0_i32_135
  let v207 : BitVec 1 := Scalar.andi v206 v203
  let v208 : BitVec 32 := Scalar.addi v202 v201
  let v209 : BitVec 32 := Scalar.select v207 v208 v202
  let v210 : Index := Scalar.indexCast v209
  let c9 : Index := 9#32
  let c0_138 : Index := 0#32
  let c0_139 : Index := 0#32
  ![v210.toNat, 9, 0, 0]
def k0_off17 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_143 : BitVec 32 := 6#32
  let c0_i32_144 : BitVec 32 := 0#32
  let v215 : BitVec 1 := Scalar.cmpi .eq c6_i32_143 c0_i32_144
  let c1_i32_145 : BitVec 32 := 1#32
  let v216 : BitVec 32 := Scalar.select v215 c1_i32_145 c6_i32_143
  let v217 : BitVec 32 := Scalar.remsi v1 v216
  let c0_i32_147 : BitVec 32 := 0#32
  let v219 : BitVec 1 := Scalar.cmpi .slt v217 c0_i32_147
  let c0_i32_148 : BitVec 32 := 0#32
  let v220 : BitVec 1 := Scalar.cmpi .slt v216 c0_i32_148
  let v221 : BitVec 1 := Scalar.xori v219 v220
  let c0_i32_146 : BitVec 32 := 0#32
  let v218 : BitVec 1 := Scalar.cmpi .ne v217 c0_i32_146
  let v222 : BitVec 1 := Scalar.andi v221 v218
  let v223 : BitVec 32 := Scalar.addi v217 v216
  let v224 : BitVec 32 := Scalar.select v222 v223 v217
  let v225 : Index := Scalar.indexCast v224
  let c10 : Index := 10#32
  let c0_149 : Index := 0#32
  let c0_150 : Index := 0#32
  ![v225.toNat, 10, 0, 0]
def k0_off18 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_154 : BitVec 32 := 6#32
  let c0_i32_155 : BitVec 32 := 0#32
  let v230 : BitVec 1 := Scalar.cmpi .eq c6_i32_154 c0_i32_155
  let c1_i32_156 : BitVec 32 := 1#32
  let v231 : BitVec 32 := Scalar.select v230 c1_i32_156 c6_i32_154
  let v232 : BitVec 32 := Scalar.remsi v1 v231
  let c0_i32_158 : BitVec 32 := 0#32
  let v234 : BitVec 1 := Scalar.cmpi .slt v232 c0_i32_158
  let c0_i32_159 : BitVec 32 := 0#32
  let v235 : BitVec 1 := Scalar.cmpi .slt v231 c0_i32_159
  let v236 : BitVec 1 := Scalar.xori v234 v235
  let c0_i32_157 : BitVec 32 := 0#32
  let v233 : BitVec 1 := Scalar.cmpi .ne v232 c0_i32_157
  let v237 : BitVec 1 := Scalar.andi v236 v233
  let v238 : BitVec 32 := Scalar.addi v232 v231
  let v239 : BitVec 32 := Scalar.select v237 v238 v232
  let v240 : Index := Scalar.indexCast v239
  let c11 : Index := 11#32
  let c0_160 : Index := 0#32
  let c0_161 : Index := 0#32
  ![v240.toNat, 11, 0, 0]
def k0_off19 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_165 : BitVec 32 := 6#32
  let c0_i32_166 : BitVec 32 := 0#32
  let v245 : BitVec 1 := Scalar.cmpi .eq c6_i32_165 c0_i32_166
  let c1_i32_167 : BitVec 32 := 1#32
  let v246 : BitVec 32 := Scalar.select v245 c1_i32_167 c6_i32_165
  let v247 : BitVec 32 := Scalar.remsi v1 v246
  let c0_i32_169 : BitVec 32 := 0#32
  let v249 : BitVec 1 := Scalar.cmpi .slt v247 c0_i32_169
  let c0_i32_170 : BitVec 32 := 0#32
  let v250 : BitVec 1 := Scalar.cmpi .slt v246 c0_i32_170
  let v251 : BitVec 1 := Scalar.xori v249 v250
  let c0_i32_168 : BitVec 32 := 0#32
  let v248 : BitVec 1 := Scalar.cmpi .ne v247 c0_i32_168
  let v252 : BitVec 1 := Scalar.andi v251 v248
  let v253 : BitVec 32 := Scalar.addi v247 v246
  let v254 : BitVec 32 := Scalar.select v252 v253 v247
  let v255 : Index := Scalar.indexCast v254
  let c12 : Index := 12#32
  let c0_171 : Index := 0#32
  let c0_172 : Index := 0#32
  ![v255.toNat, 12, 0, 0]
def k0_off20 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_176 : BitVec 32 := 6#32
  let c0_i32_177 : BitVec 32 := 0#32
  let v260 : BitVec 1 := Scalar.cmpi .eq c6_i32_176 c0_i32_177
  let c1_i32_178 : BitVec 32 := 1#32
  let v261 : BitVec 32 := Scalar.select v260 c1_i32_178 c6_i32_176
  let v262 : BitVec 32 := Scalar.remsi v1 v261
  let c0_i32_180 : BitVec 32 := 0#32
  let v264 : BitVec 1 := Scalar.cmpi .slt v262 c0_i32_180
  let c0_i32_181 : BitVec 32 := 0#32
  let v265 : BitVec 1 := Scalar.cmpi .slt v261 c0_i32_181
  let v266 : BitVec 1 := Scalar.xori v264 v265
  let c0_i32_179 : BitVec 32 := 0#32
  let v263 : BitVec 1 := Scalar.cmpi .ne v262 c0_i32_179
  let v267 : BitVec 1 := Scalar.andi v266 v263
  let v268 : BitVec 32 := Scalar.addi v262 v261
  let v269 : BitVec 32 := Scalar.select v267 v268 v262
  let v270 : Index := Scalar.indexCast v269
  let c13 : Index := 13#32
  let c0_182 : Index := 0#32
  let c0_183 : Index := 0#32
  ![v270.toNat, 13, 0, 0]
def k0_off21 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_187 : BitVec 32 := 6#32
  let c0_i32_188 : BitVec 32 := 0#32
  let v275 : BitVec 1 := Scalar.cmpi .eq c6_i32_187 c0_i32_188
  let c1_i32_189 : BitVec 32 := 1#32
  let v276 : BitVec 32 := Scalar.select v275 c1_i32_189 c6_i32_187
  let v277 : BitVec 32 := Scalar.remsi v1 v276
  let c0_i32_191 : BitVec 32 := 0#32
  let v279 : BitVec 1 := Scalar.cmpi .slt v277 c0_i32_191
  let c0_i32_192 : BitVec 32 := 0#32
  let v280 : BitVec 1 := Scalar.cmpi .slt v276 c0_i32_192
  let v281 : BitVec 1 := Scalar.xori v279 v280
  let c0_i32_190 : BitVec 32 := 0#32
  let v278 : BitVec 1 := Scalar.cmpi .ne v277 c0_i32_190
  let v282 : BitVec 1 := Scalar.andi v281 v278
  let v283 : BitVec 32 := Scalar.addi v277 v276
  let v284 : BitVec 32 := Scalar.select v282 v283 v277
  let v285 : Index := Scalar.indexCast v284
  let c14 : Index := 14#32
  let c0_193 : Index := 0#32
  let c0_194 : Index := 0#32
  ![v285.toNat, 14, 0, 0]
def k0_off22 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_198 : BitVec 32 := 6#32
  let c0_i32_199 : BitVec 32 := 0#32
  let v290 : BitVec 1 := Scalar.cmpi .eq c6_i32_198 c0_i32_199
  let c1_i32_200 : BitVec 32 := 1#32
  let v291 : BitVec 32 := Scalar.select v290 c1_i32_200 c6_i32_198
  let v292 : BitVec 32 := Scalar.remsi v1 v291
  let c0_i32_202 : BitVec 32 := 0#32
  let v294 : BitVec 1 := Scalar.cmpi .slt v292 c0_i32_202
  let c0_i32_203 : BitVec 32 := 0#32
  let v295 : BitVec 1 := Scalar.cmpi .slt v291 c0_i32_203
  let v296 : BitVec 1 := Scalar.xori v294 v295
  let c0_i32_201 : BitVec 32 := 0#32
  let v293 : BitVec 1 := Scalar.cmpi .ne v292 c0_i32_201
  let v297 : BitVec 1 := Scalar.andi v296 v293
  let v298 : BitVec 32 := Scalar.addi v292 v291
  let v299 : BitVec 32 := Scalar.select v297 v298 v292
  let v300 : Index := Scalar.indexCast v299
  let c15 : Index := 15#32
  let c0_204 : Index := 0#32
  let c0_205 : Index := 0#32
  ![v300.toNat, 15, 0, 0]
def k0_off23 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_209 : BitVec 32 := 6#32
  let c0_i32_210 : BitVec 32 := 0#32
  let v305 : BitVec 1 := Scalar.cmpi .eq c6_i32_209 c0_i32_210
  let c1_i32_211 : BitVec 32 := 1#32
  let v306 : BitVec 32 := Scalar.select v305 c1_i32_211 c6_i32_209
  let v307 : BitVec 32 := Scalar.remsi v1 v306
  let c0_i32_213 : BitVec 32 := 0#32
  let v309 : BitVec 1 := Scalar.cmpi .slt v307 c0_i32_213
  let c0_i32_214 : BitVec 32 := 0#32
  let v310 : BitVec 1 := Scalar.cmpi .slt v306 c0_i32_214
  let v311 : BitVec 1 := Scalar.xori v309 v310
  let c0_i32_212 : BitVec 32 := 0#32
  let v308 : BitVec 1 := Scalar.cmpi .ne v307 c0_i32_212
  let v312 : BitVec 1 := Scalar.andi v311 v308
  let v313 : BitVec 32 := Scalar.addi v307 v306
  let v314 : BitVec 32 := Scalar.select v312 v313 v307
  let v315 : Index := Scalar.indexCast v314
  let c16 : Index := 16#32
  let c0_215 : Index := 0#32
  let c0_216 : Index := 0#32
  ![v315.toNat, 16, 0, 0]
def k0_off24 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_220 : BitVec 32 := 6#32
  let c0_i32_221 : BitVec 32 := 0#32
  let v320 : BitVec 1 := Scalar.cmpi .eq c6_i32_220 c0_i32_221
  let c1_i32_222 : BitVec 32 := 1#32
  let v321 : BitVec 32 := Scalar.select v320 c1_i32_222 c6_i32_220
  let v322 : BitVec 32 := Scalar.remsi v1 v321
  let c0_i32_224 : BitVec 32 := 0#32
  let v324 : BitVec 1 := Scalar.cmpi .slt v322 c0_i32_224
  let c0_i32_225 : BitVec 32 := 0#32
  let v325 : BitVec 1 := Scalar.cmpi .slt v321 c0_i32_225
  let v326 : BitVec 1 := Scalar.xori v324 v325
  let c0_i32_223 : BitVec 32 := 0#32
  let v323 : BitVec 1 := Scalar.cmpi .ne v322 c0_i32_223
  let v327 : BitVec 1 := Scalar.andi v326 v323
  let v328 : BitVec 32 := Scalar.addi v322 v321
  let v329 : BitVec 32 := Scalar.select v327 v328 v322
  let v330 : Index := Scalar.indexCast v329
  let c17 : Index := 17#32
  let c0_226 : Index := 0#32
  let c0_227 : Index := 0#32
  ![v330.toNat, 17, 0, 0]
def k0_off25 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_231 : BitVec 32 := 6#32
  let c0_i32_232 : BitVec 32 := 0#32
  let v335 : BitVec 1 := Scalar.cmpi .eq c6_i32_231 c0_i32_232
  let c1_i32_233 : BitVec 32 := 1#32
  let v336 : BitVec 32 := Scalar.select v335 c1_i32_233 c6_i32_231
  let v337 : BitVec 32 := Scalar.remsi v1 v336
  let c0_i32_235 : BitVec 32 := 0#32
  let v339 : BitVec 1 := Scalar.cmpi .slt v337 c0_i32_235
  let c0_i32_236 : BitVec 32 := 0#32
  let v340 : BitVec 1 := Scalar.cmpi .slt v336 c0_i32_236
  let v341 : BitVec 1 := Scalar.xori v339 v340
  let c0_i32_234 : BitVec 32 := 0#32
  let v338 : BitVec 1 := Scalar.cmpi .ne v337 c0_i32_234
  let v342 : BitVec 1 := Scalar.andi v341 v338
  let v343 : BitVec 32 := Scalar.addi v337 v336
  let v344 : BitVec 32 := Scalar.select v342 v343 v337
  let v345 : Index := Scalar.indexCast v344
  let c18 : Index := 18#32
  let c0_237 : Index := 0#32
  let c0_238 : Index := 0#32
  ![v345.toNat, 18, 0, 0]
def k0_off26 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_242 : BitVec 32 := 6#32
  let c0_i32_243 : BitVec 32 := 0#32
  let v350 : BitVec 1 := Scalar.cmpi .eq c6_i32_242 c0_i32_243
  let c1_i32_244 : BitVec 32 := 1#32
  let v351 : BitVec 32 := Scalar.select v350 c1_i32_244 c6_i32_242
  let v352 : BitVec 32 := Scalar.remsi v1 v351
  let c0_i32_246 : BitVec 32 := 0#32
  let v354 : BitVec 1 := Scalar.cmpi .slt v352 c0_i32_246
  let c0_i32_247 : BitVec 32 := 0#32
  let v355 : BitVec 1 := Scalar.cmpi .slt v351 c0_i32_247
  let v356 : BitVec 1 := Scalar.xori v354 v355
  let c0_i32_245 : BitVec 32 := 0#32
  let v353 : BitVec 1 := Scalar.cmpi .ne v352 c0_i32_245
  let v357 : BitVec 1 := Scalar.andi v356 v353
  let v358 : BitVec 32 := Scalar.addi v352 v351
  let v359 : BitVec 32 := Scalar.select v357 v358 v352
  let v360 : Index := Scalar.indexCast v359
  let c19 : Index := 19#32
  let c0_248 : Index := 0#32
  let c0_249 : Index := 0#32
  ![v360.toNat, 19, 0, 0]
def k0_off27 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_253 : BitVec 32 := 6#32
  let c0_i32_254 : BitVec 32 := 0#32
  let v365 : BitVec 1 := Scalar.cmpi .eq c6_i32_253 c0_i32_254
  let c1_i32_255 : BitVec 32 := 1#32
  let v366 : BitVec 32 := Scalar.select v365 c1_i32_255 c6_i32_253
  let v367 : BitVec 32 := Scalar.remsi v1 v366
  let c0_i32_257 : BitVec 32 := 0#32
  let v369 : BitVec 1 := Scalar.cmpi .slt v367 c0_i32_257
  let c0_i32_258 : BitVec 32 := 0#32
  let v370 : BitVec 1 := Scalar.cmpi .slt v366 c0_i32_258
  let v371 : BitVec 1 := Scalar.xori v369 v370
  let c0_i32_256 : BitVec 32 := 0#32
  let v368 : BitVec 1 := Scalar.cmpi .ne v367 c0_i32_256
  let v372 : BitVec 1 := Scalar.andi v371 v368
  let v373 : BitVec 32 := Scalar.addi v367 v366
  let v374 : BitVec 32 := Scalar.select v372 v373 v367
  let v375 : Index := Scalar.indexCast v374
  let c20 : Index := 20#32
  let c0_259 : Index := 0#32
  let c0_260 : Index := 0#32
  ![v375.toNat, 20, 0, 0]
def k0_off28 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_264 : BitVec 32 := 6#32
  let c0_i32_265 : BitVec 32 := 0#32
  let v380 : BitVec 1 := Scalar.cmpi .eq c6_i32_264 c0_i32_265
  let c1_i32_266 : BitVec 32 := 1#32
  let v381 : BitVec 32 := Scalar.select v380 c1_i32_266 c6_i32_264
  let v382 : BitVec 32 := Scalar.remsi v1 v381
  let c0_i32_268 : BitVec 32 := 0#32
  let v384 : BitVec 1 := Scalar.cmpi .slt v382 c0_i32_268
  let c0_i32_269 : BitVec 32 := 0#32
  let v385 : BitVec 1 := Scalar.cmpi .slt v381 c0_i32_269
  let v386 : BitVec 1 := Scalar.xori v384 v385
  let c0_i32_267 : BitVec 32 := 0#32
  let v383 : BitVec 1 := Scalar.cmpi .ne v382 c0_i32_267
  let v387 : BitVec 1 := Scalar.andi v386 v383
  let v388 : BitVec 32 := Scalar.addi v382 v381
  let v389 : BitVec 32 := Scalar.select v387 v388 v382
  let v390 : Index := Scalar.indexCast v389
  let c21 : Index := 21#32
  let c0_270 : Index := 0#32
  let c0_271 : Index := 0#32
  ![v390.toNat, 21, 0, 0]
def k0_off29 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_275 : BitVec 32 := 6#32
  let c0_i32_276 : BitVec 32 := 0#32
  let v395 : BitVec 1 := Scalar.cmpi .eq c6_i32_275 c0_i32_276
  let c1_i32_277 : BitVec 32 := 1#32
  let v396 : BitVec 32 := Scalar.select v395 c1_i32_277 c6_i32_275
  let v397 : BitVec 32 := Scalar.remsi v1 v396
  let c0_i32_279 : BitVec 32 := 0#32
  let v399 : BitVec 1 := Scalar.cmpi .slt v397 c0_i32_279
  let c0_i32_280 : BitVec 32 := 0#32
  let v400 : BitVec 1 := Scalar.cmpi .slt v396 c0_i32_280
  let v401 : BitVec 1 := Scalar.xori v399 v400
  let c0_i32_278 : BitVec 32 := 0#32
  let v398 : BitVec 1 := Scalar.cmpi .ne v397 c0_i32_278
  let v402 : BitVec 1 := Scalar.andi v401 v398
  let v403 : BitVec 32 := Scalar.addi v397 v396
  let v404 : BitVec 32 := Scalar.select v402 v403 v397
  let v405 : Index := Scalar.indexCast v404
  let c22 : Index := 22#32
  let c0_281 : Index := 0#32
  let c0_282 : Index := 0#32
  ![v405.toNat, 22, 0, 0]
def k0_off30 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_286 : BitVec 32 := 6#32
  let c0_i32_287 : BitVec 32 := 0#32
  let v410 : BitVec 1 := Scalar.cmpi .eq c6_i32_286 c0_i32_287
  let c1_i32_288 : BitVec 32 := 1#32
  let v411 : BitVec 32 := Scalar.select v410 c1_i32_288 c6_i32_286
  let v412 : BitVec 32 := Scalar.remsi v1 v411
  let c0_i32_290 : BitVec 32 := 0#32
  let v414 : BitVec 1 := Scalar.cmpi .slt v412 c0_i32_290
  let c0_i32_291 : BitVec 32 := 0#32
  let v415 : BitVec 1 := Scalar.cmpi .slt v411 c0_i32_291
  let v416 : BitVec 1 := Scalar.xori v414 v415
  let c0_i32_289 : BitVec 32 := 0#32
  let v413 : BitVec 1 := Scalar.cmpi .ne v412 c0_i32_289
  let v417 : BitVec 1 := Scalar.andi v416 v413
  let v418 : BitVec 32 := Scalar.addi v412 v411
  let v419 : BitVec 32 := Scalar.select v417 v418 v412
  let v420 : Index := Scalar.indexCast v419
  let c23 : Index := 23#32
  let c0_292 : Index := 0#32
  let c0_293 : Index := 0#32
  ![v420.toNat, 23, 0, 0]
def k0_off31 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_297 : BitVec 32 := 6#32
  let c0_i32_298 : BitVec 32 := 0#32
  let v425 : BitVec 1 := Scalar.cmpi .eq c6_i32_297 c0_i32_298
  let c1_i32_299 : BitVec 32 := 1#32
  let v426 : BitVec 32 := Scalar.select v425 c1_i32_299 c6_i32_297
  let v427 : BitVec 32 := Scalar.remsi v1 v426
  let c0_i32_301 : BitVec 32 := 0#32
  let v429 : BitVec 1 := Scalar.cmpi .slt v427 c0_i32_301
  let c0_i32_302 : BitVec 32 := 0#32
  let v430 : BitVec 1 := Scalar.cmpi .slt v426 c0_i32_302
  let v431 : BitVec 1 := Scalar.xori v429 v430
  let c0_i32_300 : BitVec 32 := 0#32
  let v428 : BitVec 1 := Scalar.cmpi .ne v427 c0_i32_300
  let v432 : BitVec 1 := Scalar.andi v431 v428
  let v433 : BitVec 32 := Scalar.addi v427 v426
  let v434 : BitVec 32 := Scalar.select v432 v433 v427
  let v435 : Index := Scalar.indexCast v434
  let c24 : Index := 24#32
  let c0_303 : Index := 0#32
  let c0_304 : Index := 0#32
  ![v435.toNat, 24, 0, 0]
def k0_off32 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_308 : BitVec 32 := 6#32
  let c0_i32_309 : BitVec 32 := 0#32
  let v440 : BitVec 1 := Scalar.cmpi .eq c6_i32_308 c0_i32_309
  let c1_i32_310 : BitVec 32 := 1#32
  let v441 : BitVec 32 := Scalar.select v440 c1_i32_310 c6_i32_308
  let v442 : BitVec 32 := Scalar.remsi v1 v441
  let c0_i32_312 : BitVec 32 := 0#32
  let v444 : BitVec 1 := Scalar.cmpi .slt v442 c0_i32_312
  let c0_i32_313 : BitVec 32 := 0#32
  let v445 : BitVec 1 := Scalar.cmpi .slt v441 c0_i32_313
  let v446 : BitVec 1 := Scalar.xori v444 v445
  let c0_i32_311 : BitVec 32 := 0#32
  let v443 : BitVec 1 := Scalar.cmpi .ne v442 c0_i32_311
  let v447 : BitVec 1 := Scalar.andi v446 v443
  let v448 : BitVec 32 := Scalar.addi v442 v441
  let v449 : BitVec 32 := Scalar.select v447 v448 v442
  let v450 : Index := Scalar.indexCast v449
  let c25 : Index := 25#32
  let c0_314 : Index := 0#32
  let c0_315 : Index := 0#32
  ![v450.toNat, 25, 0, 0]
def k0_off33 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_319 : BitVec 32 := 6#32
  let c0_i32_320 : BitVec 32 := 0#32
  let v455 : BitVec 1 := Scalar.cmpi .eq c6_i32_319 c0_i32_320
  let c1_i32_321 : BitVec 32 := 1#32
  let v456 : BitVec 32 := Scalar.select v455 c1_i32_321 c6_i32_319
  let v457 : BitVec 32 := Scalar.remsi v1 v456
  let c0_i32_323 : BitVec 32 := 0#32
  let v459 : BitVec 1 := Scalar.cmpi .slt v457 c0_i32_323
  let c0_i32_324 : BitVec 32 := 0#32
  let v460 : BitVec 1 := Scalar.cmpi .slt v456 c0_i32_324
  let v461 : BitVec 1 := Scalar.xori v459 v460
  let c0_i32_322 : BitVec 32 := 0#32
  let v458 : BitVec 1 := Scalar.cmpi .ne v457 c0_i32_322
  let v462 : BitVec 1 := Scalar.andi v461 v458
  let v463 : BitVec 32 := Scalar.addi v457 v456
  let v464 : BitVec 32 := Scalar.select v462 v463 v457
  let v465 : Index := Scalar.indexCast v464
  let c26 : Index := 26#32
  let c0_325 : Index := 0#32
  let c0_326 : Index := 0#32
  ![v465.toNat, 26, 0, 0]
def k0_off34 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_330 : BitVec 32 := 6#32
  let c0_i32_331 : BitVec 32 := 0#32
  let v470 : BitVec 1 := Scalar.cmpi .eq c6_i32_330 c0_i32_331
  let c1_i32_332 : BitVec 32 := 1#32
  let v471 : BitVec 32 := Scalar.select v470 c1_i32_332 c6_i32_330
  let v472 : BitVec 32 := Scalar.remsi v1 v471
  let c0_i32_334 : BitVec 32 := 0#32
  let v474 : BitVec 1 := Scalar.cmpi .slt v472 c0_i32_334
  let c0_i32_335 : BitVec 32 := 0#32
  let v475 : BitVec 1 := Scalar.cmpi .slt v471 c0_i32_335
  let v476 : BitVec 1 := Scalar.xori v474 v475
  let c0_i32_333 : BitVec 32 := 0#32
  let v473 : BitVec 1 := Scalar.cmpi .ne v472 c0_i32_333
  let v477 : BitVec 1 := Scalar.andi v476 v473
  let v478 : BitVec 32 := Scalar.addi v472 v471
  let v479 : BitVec 32 := Scalar.select v477 v478 v472
  let v480 : Index := Scalar.indexCast v479
  let c27 : Index := 27#32
  let c0_336 : Index := 0#32
  let c0_337 : Index := 0#32
  ![v480.toNat, 27, 0, 0]
def k0_off35 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_341 : BitVec 32 := 6#32
  let c0_i32_342 : BitVec 32 := 0#32
  let v485 : BitVec 1 := Scalar.cmpi .eq c6_i32_341 c0_i32_342
  let c1_i32_343 : BitVec 32 := 1#32
  let v486 : BitVec 32 := Scalar.select v485 c1_i32_343 c6_i32_341
  let v487 : BitVec 32 := Scalar.remsi v1 v486
  let c0_i32_345 : BitVec 32 := 0#32
  let v489 : BitVec 1 := Scalar.cmpi .slt v487 c0_i32_345
  let c0_i32_346 : BitVec 32 := 0#32
  let v490 : BitVec 1 := Scalar.cmpi .slt v486 c0_i32_346
  let v491 : BitVec 1 := Scalar.xori v489 v490
  let c0_i32_344 : BitVec 32 := 0#32
  let v488 : BitVec 1 := Scalar.cmpi .ne v487 c0_i32_344
  let v492 : BitVec 1 := Scalar.andi v491 v488
  let v493 : BitVec 32 := Scalar.addi v487 v486
  let v494 : BitVec 32 := Scalar.select v492 v493 v487
  let v495 : Index := Scalar.indexCast v494
  let c28 : Index := 28#32
  let c0_347 : Index := 0#32
  let c0_348 : Index := 0#32
  ![v495.toNat, 28, 0, 0]
def k0_off36 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_352 : BitVec 32 := 6#32
  let c0_i32_353 : BitVec 32 := 0#32
  let v500 : BitVec 1 := Scalar.cmpi .eq c6_i32_352 c0_i32_353
  let c1_i32_354 : BitVec 32 := 1#32
  let v501 : BitVec 32 := Scalar.select v500 c1_i32_354 c6_i32_352
  let v502 : BitVec 32 := Scalar.remsi v1 v501
  let c0_i32_356 : BitVec 32 := 0#32
  let v504 : BitVec 1 := Scalar.cmpi .slt v502 c0_i32_356
  let c0_i32_357 : BitVec 32 := 0#32
  let v505 : BitVec 1 := Scalar.cmpi .slt v501 c0_i32_357
  let v506 : BitVec 1 := Scalar.xori v504 v505
  let c0_i32_355 : BitVec 32 := 0#32
  let v503 : BitVec 1 := Scalar.cmpi .ne v502 c0_i32_355
  let v507 : BitVec 1 := Scalar.andi v506 v503
  let v508 : BitVec 32 := Scalar.addi v502 v501
  let v509 : BitVec 32 := Scalar.select v507 v508 v502
  let v510 : Index := Scalar.indexCast v509
  let c29 : Index := 29#32
  let c0_358 : Index := 0#32
  let c0_359 : Index := 0#32
  ![v510.toNat, 29, 0, 0]
def k0_off37 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_363 : BitVec 32 := 6#32
  let c0_i32_364 : BitVec 32 := 0#32
  let v515 : BitVec 1 := Scalar.cmpi .eq c6_i32_363 c0_i32_364
  let c1_i32_365 : BitVec 32 := 1#32
  let v516 : BitVec 32 := Scalar.select v515 c1_i32_365 c6_i32_363
  let v517 : BitVec 32 := Scalar.remsi v1 v516
  let c0_i32_367 : BitVec 32 := 0#32
  let v519 : BitVec 1 := Scalar.cmpi .slt v517 c0_i32_367
  let c0_i32_368 : BitVec 32 := 0#32
  let v520 : BitVec 1 := Scalar.cmpi .slt v516 c0_i32_368
  let v521 : BitVec 1 := Scalar.xori v519 v520
  let c0_i32_366 : BitVec 32 := 0#32
  let v518 : BitVec 1 := Scalar.cmpi .ne v517 c0_i32_366
  let v522 : BitVec 1 := Scalar.andi v521 v518
  let v523 : BitVec 32 := Scalar.addi v517 v516
  let v524 : BitVec 32 := Scalar.select v522 v523 v517
  let v525 : Index := Scalar.indexCast v524
  let c30 : Index := 30#32
  let c0_369 : Index := 0#32
  let c0_370 : Index := 0#32
  ![v525.toNat, 30, 0, 0]
def k0_off38 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c6_i32_374 : BitVec 32 := 6#32
  let c0_i32_375 : BitVec 32 := 0#32
  let v530 : BitVec 1 := Scalar.cmpi .eq c6_i32_374 c0_i32_375
  let c1_i32_376 : BitVec 32 := 1#32
  let v531 : BitVec 32 := Scalar.select v530 c1_i32_376 c6_i32_374
  let v532 : BitVec 32 := Scalar.remsi v1 v531
  let c0_i32_378 : BitVec 32 := 0#32
  let v534 : BitVec 1 := Scalar.cmpi .slt v532 c0_i32_378
  let c0_i32_379 : BitVec 32 := 0#32
  let v535 : BitVec 1 := Scalar.cmpi .slt v531 c0_i32_379
  let v536 : BitVec 1 := Scalar.xori v534 v535
  let c0_i32_377 : BitVec 32 := 0#32
  let v533 : BitVec 1 := Scalar.cmpi .ne v532 c0_i32_377
  let v537 : BitVec 1 := Scalar.andi v536 v533
  let v538 : BitVec 32 := Scalar.addi v532 v531
  let v539 : BitVec 32 := Scalar.select v537 v538 v532
  let v540 : Index := Scalar.indexCast v539
  let c31 : Index := 31#32
  let c0_380 : Index := 0#32
  let c0_381 : Index := 0#32
  ![v540.toNat, 31, 0, 0]
def k0_cond3 (i : grid0.Coords) : BitVec 1 :=
  let arg1 : BitVec 32 := BitVec.ofNat 32 (i 1).val
  let c0_i32_395 : BitVec 32 := 0#32
  let v574 : BitVec 1 := Scalar.cmpi .eq arg1 c0_i32_395
  let v575 : BitVec 32 := Scalar.extui v574
  let c0_i32_396 : BitVec 32 := 0#32
  let v576 : BitVec 1 := Scalar.cmpi .ne v575 c0_i32_396
  v576

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x255x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x255x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8x256x256x128 : Shape := ⟨4, ![8, 256, 256, 128]⟩
abbrev S8x256x256 : Shape := ⟨3, ![8, 256, 256]⟩
abbrev S1x128 : Shape := ⟨2, ![1, 128]⟩
abbrev S1 : Shape := ⟨1, ![1]⟩
abbrev S128x1 : Shape := ⟨2, ![128, 1]⟩
abbrev S8x256x256x1 : Shape := ⟨4, ![8, 256, 256, 1]⟩
abbrev S1x1x1x1 : Shape := ⟨4, ![1, 1, 1, 1]⟩
abbrev S_ : Shape := ⟨0, ![]⟩
abbrev S8x256x256x2 : Shape := ⟨4, ![8, 256, 256, 2]⟩
abbrev S256 : Shape := ⟨1, ![256]⟩
abbrev S1x1x256 : Shape := ⟨3, ![1, 1, 256]⟩
abbrev S8x256 : Shape := ⟨2, ![8, 256]⟩
abbrev S8 : Shape := ⟨1, ![8]⟩
abbrev S8x1 : Shape := ⟨2, ![8, 1]⟩
abbrev S1x256 : Shape := ⟨2, ![1, 256]⟩
abbrev S8x256x1 : Shape := ⟨3, ![8, 256, 1]⟩
abbrev S8x256x3 : Shape := ⟨3, ![8, 256, 3]⟩
abbrev S8x255x256 : Shape := ⟨3, ![8, 255, 256]⟩
abbrev S8x255x256x2 : Shape := ⟨4, ![8, 255, 256, 2]⟩

abbrev nBuf : Space → Nat
  | .hbm => 89
  | .vmem => 0
  | .smem => 0
  | _ => 0

abbrev bufTy : (tb : Table) → Fin (tcTables nBuf tb) → BufTy
  | .hbm, ⟨0, _⟩ => ⟨S8x256x256x128, .f32⟩
  | .hbm, ⟨1, _⟩ => ⟨S8x256x256, .f32⟩
  | .hbm, ⟨2, _⟩ => ⟨S1x128, .f32⟩
  | .hbm, ⟨3, _⟩ => ⟨S1, .f32⟩
  | .hbm, ⟨4, _⟩ => ⟨S128x1, .f32⟩
  | .hbm, ⟨5, _⟩ => ⟨S8x256x256x1, .f32⟩
  | .hbm, ⟨6, _⟩ => ⟨S1x1x1x1, .f32⟩
  | .hbm, ⟨7, _⟩ => ⟨S8x256x256x1, .f32⟩
  | .hbm, ⟨8, _⟩ => ⟨S8x256x256x1, .f32⟩
  | .hbm, ⟨9, _⟩ => ⟨S8x256x256x1, .f32⟩
  | .hbm, ⟨10, _⟩ => ⟨S_, .f32⟩
  | .hbm, ⟨11, _⟩ => ⟨S8x256x256x1, .f32⟩
  | .hbm, ⟨12, _⟩ => ⟨S8x256x256x1, .f32⟩
  | .hbm, ⟨13, _⟩ => ⟨S8x256x256x1, .f32⟩
  | .hbm, ⟨14, _⟩ => ⟨S8x256x256x1, .f32⟩
  | .hbm, ⟨15, _⟩ => ⟨S8x256x256x1, .i1⟩
  | .hbm, ⟨16, _⟩ => ⟨S8x256x256x1, .f32⟩
  | .hbm, ⟨17, _⟩ => ⟨S8x256x256x1, .f32⟩
  | .hbm, ⟨18, _⟩ => ⟨S8x256x256x1, .f32⟩
  | .hbm, ⟨19, _⟩ => ⟨S8x256x256x1, .f32⟩
  | .hbm, ⟨20, _⟩ => ⟨S8x256x256x1, .f32⟩
  | .hbm, ⟨21, _⟩ => ⟨S8x256x256x1, .f32⟩
  | .hbm, ⟨22, _⟩ => ⟨S8x256x256x1, .f32⟩
  | .hbm, ⟨23, _⟩ => ⟨S8x256x256x1, .f32⟩
  | .hbm, ⟨24, _⟩ => ⟨S8x256x256x1, .f32⟩
  | .hbm, ⟨25, _⟩ => ⟨S8x256x256x1, .f32⟩
  | .hbm, ⟨26, _⟩ => ⟨S8x256x256x2, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S1x1x256, .f32⟩
  | .hbm, ⟨32, _⟩ => ⟨S_, .f32⟩
  | .hbm, ⟨33, _⟩ => ⟨S1x1x256, .f32⟩
  | .hbm, ⟨34, _⟩ => ⟨S1x1x256, .f32⟩
  | .hbm, ⟨35, _⟩ => ⟨S8x256x256, .f32⟩
  | .hbm, ⟨36, _⟩ => ⟨S8x256x256, .f32⟩
  | .hbm, ⟨37, _⟩ => ⟨S8x256x256, .i32⟩
  | .hbm, ⟨38, _⟩ => ⟨S_, .f32⟩
  | .hbm, ⟨39, _⟩ => ⟨S_, .i32⟩
  | .hbm, ⟨40, _⟩ => ⟨S8x256, .f32⟩
  | .hbm, ⟨41, _⟩ => ⟨S8x256, .i32⟩
  | .hbm, ⟨42, _⟩ => ⟨S_, .i32⟩
  | .hbm, ⟨43, _⟩ => ⟨S_, .i32⟩
  | .hbm, ⟨44, _⟩ => ⟨S8x256, .i32⟩
  | .hbm, ⟨45, _⟩ => ⟨S8, .i32⟩
  | .hbm, ⟨46, _⟩ => ⟨S8x1, .i32⟩
  | .hbm, ⟨47, _⟩ => ⟨S256, .i32⟩
  | .hbm, ⟨48, _⟩ => ⟨S1x256, .i32⟩
  | .hbm, ⟨49, _⟩ => ⟨S_, .f32⟩
  | .hbm, ⟨50, _⟩ => ⟨S8x256x256, .f32⟩
  | .hbm, ⟨51, _⟩ => ⟨S_, .i32⟩
  | .hbm, ⟨52, _⟩ => ⟨S8x1, .i32⟩
  | .hbm, ⟨53, _⟩ => ⟨S8x1, .i1⟩
  | .hbm, ⟨54, _⟩ => ⟨S_, .i32⟩
  | .hbm, ⟨55, _⟩ => ⟨S8x1, .i32⟩
  | .hbm, ⟨56, _⟩ => ⟨S8x1, .i32⟩
  | .hbm, ⟨57, _⟩ => ⟨S8x1, .i32⟩
  | .hbm, ⟨58, _⟩ => ⟨S_, .i32⟩
  | .hbm, ⟨59, _⟩ => ⟨S1x256, .i32⟩
  | .hbm, ⟨60, _⟩ => ⟨S1x256, .i1⟩
  | .hbm, ⟨61, _⟩ => ⟨S_, .i32⟩
  | .hbm, ⟨62, _⟩ => ⟨S1x256, .i32⟩
  | .hbm, ⟨63, _⟩ => ⟨S1x256, .i32⟩
  | .hbm, ⟨64, _⟩ => ⟨S1x256, .i32⟩
  | .hbm, ⟨65, _⟩ => ⟨S_, .i32⟩
  | .hbm, ⟨66, _⟩ => ⟨S8x256, .i32⟩
  | .hbm, ⟨67, _⟩ => ⟨S8x256, .i1⟩
  | .hbm, ⟨68, _⟩ => ⟨S_, .i32⟩
  | .hbm, ⟨69, _⟩ => ⟨S8x256, .i32⟩
  | .hbm, ⟨70, _⟩ => ⟨S8x256, .i32⟩
  | .hbm, ⟨71, _⟩ => ⟨S8x256, .i32⟩
  | .hbm, ⟨72, _⟩ => ⟨S8x256, .i32⟩
  | .hbm, ⟨73, _⟩ => ⟨S8x256, .i32⟩
  | .hbm, ⟨74, _⟩ => ⟨S8x256x1, .i32⟩
  | .hbm, ⟨75, _⟩ => ⟨S8x256x1, .i32⟩
  | .hbm, ⟨76, _⟩ => ⟨S8x256x1, .i32⟩
  | .hbm, ⟨77, _⟩ => ⟨S8x256x3, .i32⟩
  | .hbm, ⟨78, _⟩ => ⟨S_, .f32⟩
  | .hbm, ⟨79, _⟩ => ⟨S8x256, .f32⟩
  | .hbm, ⟨80, _⟩ => ⟨S8x256x256, .f32⟩
  | .hbm, ⟨81, _⟩ => ⟨S_, .f32⟩
  | .hbm, ⟨82, _⟩ => ⟨S_, .f32⟩
  | .hbm, ⟨83, _⟩ => ⟨S8x256x256, .f32⟩
  | .hbm, ⟨84, _⟩ => ⟨S8x255x256, .f32⟩
  | .hbm, ⟨85, _⟩ => ⟨S_, .f32⟩
  | .hbm, ⟨86, _⟩ => ⟨S8x255x256, .f32⟩
  | .hbm, ⟨87, _⟩ => ⟨S8x255x256, .f32⟩
  | .hbm, ⟨88, _⟩ => ⟨S8x255x256x2, .f32⟩
  | _, _ => ⟨S8x256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call1_v0 : Ref sig .tc := ⟨.hbm, 37, rfl⟩
abbrev main_call1_cst : Ref sig .tc := ⟨.hbm, 38, rfl⟩
abbrev main_call1_c : Ref sig .tc := ⟨.hbm, 39, rfl⟩
abbrev main_call1_v1_0 : Ref sig .tc := ⟨.hbm, 40, rfl⟩
abbrev main_v16 : Ref sig .tc := ⟨.hbm, 41, rfl⟩
abbrev main_call2_c : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_1 : Ref sig .tc := ⟨.hbm, 49, rfl⟩
abbrev main_v22 : Ref sig .tc := ⟨.hbm, 50, rfl⟩
abbrev main_c : Ref sig .tc := ⟨.hbm, 51, rfl⟩
abbrev main_v23 : Ref sig .tc := ⟨.hbm, 52, rfl⟩
abbrev main_v24 : Ref sig .tc := ⟨.hbm, 53, rfl⟩
abbrev main_c_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_3 : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_5 : Ref sig .tc := ⟨.hbm, 65, rfl⟩
abbrev main_v33 : Ref sig .tc := ⟨.hbm, 66, rfl⟩
abbrev main_v34 : Ref sig .tc := ⟨.hbm, 67, rfl⟩
abbrev main_c_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_7 : Ref sig .tc := ⟨.hbm, 78, rfl⟩
abbrev main_v44 : Ref sig .tc := ⟨.hbm, 79, rfl⟩
abbrev main_v45 : Ref sig .tc := ⟨.hbm, 80, rfl⟩
abbrev main_call3_call0_cst : Ref sig .tc := ⟨.hbm, 81, rfl⟩
abbrev main_call3_call0_v0 : Ref sig .tc := ⟨.hbm, 82, rfl⟩
abbrev main_v46 : Ref sig .tc := ⟨.hbm, 83, rfl⟩
abbrev main_v47 : Ref sig .tc := ⟨.hbm, 84, rfl⟩
abbrev main_cst_8 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩

abbrev nD : Nat := 1
abbrev τ : Topo := Topo.v7x

variable {F : FTy → Type} [FloatOps F]
-- ==== Proof.K.Ring.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

/-!
The ring of six slots: the observations stay in memory, and the body copies the block of the point five steps ahead
into one slot while it works on the block of its own point in another.  This module names the slots, the blocks and the
semaphore cells, and states what is in flight before each point (`ringInv`).
-/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's three conditions over the points -/

/-- The point is the first of the grid (the five first copies are started there). -/
abbrev atFirst (i : grid0.Coords) : Prop :=
  Scalar.cmpi .ne (Scalar.extui (Scalar.cmpi .eq (Scalar.addi (Scalar.muli (BitVec.ofNat 32 (i 0).val) 8#32) (BitVec.ofNat 32 (i 1).val)) 0#32)) 0#32 = 1#1
/-- A block five points ahead exists. -/
abbrev hasAhead (i : grid0.Coords) : Prop := k0_cond2 i = 1#1
/-- The point is the first of its batch entry (the scores are decoded there). -/
abbrev atBatch (i : grid0.Coords) : Prop := k0_cond3 i = 1#1

set_option synthInstance.maxSize 4096 in
theorem atFirst_iff : ∀ t : Fin cfg0.N, atFirst (grid0.coords t) ↔ t.val = 0 :=
  (by decide +kernel : ∀ t : Fin grid0.N, atFirst (grid0.coords t) ↔ t.val = 0)
set_option synthInstance.maxSize 4096 in
theorem hasAhead_iff : ∀ t : Fin cfg0.N, hasAhead (grid0.coords t) ↔ t.val + 5 < 64 :=
  (by decide +kernel : ∀ t : Fin grid0.N, hasAhead (grid0.coords t) ↔ t.val + 5 < 64)
set_option synthInstance.maxSize 4096 in
theorem atBatch_iff : ∀ t : Fin cfg0.N, atBatch (grid0.coords t) ↔ t.val % 8 = 0 :=
  (by decide +kernel : ∀ t : Fin grid0.N, atBatch (grid0.coords t) ↔ t.val % 8 = 0)
theorem first_zero (t : Fin grid0.N) (h : atFirst (grid0.coords t)) : t.val = 0 := (atFirst_iff t).1 h

/-! ## Names: the scratch, the observations, slots, blocks, cells -/

/-- The scratch buffer, whole. -/
abbrev scr : Memref sig .tc .vmem S6x32x256x128 .f32 := Memref.whole cc0_scratch0
/-- The observations, whole. -/
abbrev obs : Memref sig .tc .hbm S8x256x256x128 .f32 := Memref.whole main_arg0
/-- The contents that a memref's buffer may have on core `c`. -/
abbrev BufOf (c : Dev nD) {sp : Space} {S : Shape} {e : EltTy} (M : Memref sig .tc sp S e) : Type := Buf (Elt F) (M.view.loc (c : Thread nD τ))
/-- A memref's buffer held whole at `f`. -/
abbrev held (c : Dev nD) {sp : Space} {S : Shape} {e : EltTy} (M : Memref sig .tc sp S e) (f : BufOf (F := F) c M) : sProp 𝕄 :=
  M.view.loc (c : Thread nD τ) ↦{fullShare} f

theorem slot_inb (s : Fin 6) : ∀ a, (![s.val, 0, 0, 0] : Fin 4 → Nat) a + S1x32x256x128.size a ≤ S6x32x256x128.size a := by
  have := s.isLt; intro a; fin_cases a <;> simp <;> omega
theorem block_inb (b : Fin 64) : ∀ a, (![b.val / 8, 32 * (b.val % 8), 0, 0] : Fin 4 → Nat) a + S1x32x256x128.size a ≤ S8x256x256x128.size a := by
  have := b.isLt; intro a; fin_cases a <;> simp <;> omega
theorem cell_inb (s : Fin 6) : ∀ a, (![s.val] : Fin 1 → Nat) a + S1.size a ≤ S6.size a := by
  have := s.isLt; intro a; fin_cases a <;> simp <;> omega

/-- Slot `s` of the scratch. -/
def slotM (s : Fin 6) : Memref sig .tc .vmem S32x256x128 .f32 :=
  (scr.slice (Rect.unit (s := S6x32x256x128) ![s.val, 0, 0, 0] S1x32x256x128.size (slot_inb s)) (fun _ => rfl)).squeeze S32x256x128 squeezes_S1x32x256x128_S32x256x128
/-- Block `b` of the observations: 32 rows of batch entry `b / 8`. -/
def blockM (b : Fin 64) : Memref sig .tc .hbm S32x256x128 .f32 :=
  (obs.slice (Rect.unit (s := S8x256x256x128) ![b.val / 8, 32 * (b.val % 8), 0, 0] S1x32x256x128.size (block_inb b)) (fun _ => rfl)).squeeze S32x256x128 squeezes_S1x32x256x128_S32x256x128
/-- Cell `s` of the semaphore array. -/
def cellM (s : Fin 6) : DmaSems sig S_ := (cc0_scratch1.slice (Rect.unit (s := S6) ![s.val] S1.size (cell_inb s))).squeeze S_ squeezes_S1_S_
/-- Its place among the semaphores. -/
abbrev cellR (s : Fin 6) : SemLoc sig := SemLoc.dma (cellM s).sem

theorem cells_own : Pipeline.OwnSemFacts spec0 cellR := by decide

omit [FloatOps F] in
theorem slot_named {o : Fin 4 → Nat} {s : Fin 6} (h : o = ![s.val, 0, 0, 0]) (ib : ∀ a, o a + S1x32x256x128.size a ≤ S6x32x256x128.size a) :
    (scr.slice (Rect.unit (s := S6x32x256x128) o S1x32x256x128.size ib) (fun _ => rfl)).squeeze S32x256x128 squeezes_S1x32x256x128_S32x256x128 = slotM s := by
  subst h; rfl
theorem block_named {o : Fin 4 → Nat} {b : Fin 64} (h : o = ![b.val / 8, 32 * (b.val % 8), 0, 0]) (ib : ∀ a, o a + S1x32x256x128.size a ≤ S8x256x256x128.size a) :
    (obs.slice (Rect.unit (s := S8x256x256x128) o S1x32x256x128.size ib) (fun _ => rfl)).squeeze S32x256x128 squeezes_S1x32x256x128_S32x256x128 = blockM b := by
  subst h; rfl
theorem cell_named {o : Fin 1 → Nat} {s : Fin 6} (h : o = ![s.val]) (ib : ∀ a, o a + S1.size a ≤ S6.size a) :
    (cc0_scratch1.slice (Rect.unit (s := S6) o S1.size ib)).squeeze S_ squeezes_S1_S_ = cellM s := by
  subst h; rfl

/-! The body's own spellings of the slots, blocks and cells, as those names: at a point, what is waited for, … -/

set_option synthInstance.maxSize 4096 in
theorem wait_slot_off : ∀ t : Fin grid0.N, k0_off2 (grid0.coords t) = ![(Ring.sl 6 t.val).val, 0, 0, 0] := by decide +kernel
set_option synthInstance.maxSize 4096 in
theorem wait_cell_off : ∀ t : Fin grid0.N, k0_off1 (grid0.coords t) = ![(Ring.sl 6 t.val).val] := by decide +kernel
set_option synthInstance.maxSize 4096 in
theorem start_slot_off : ∀ t : Fin grid0.N, k0_off5 (grid0.coords t) = ![(Ring.sl 6 (t.val + 5)).val, 0, 0, 0] := by decide +kernel
set_option synthInstance.maxSize 4096 in
theorem start_cell_off : ∀ t : Fin grid0.N, k0_off4 (grid0.coords t) = ![(Ring.sl 6 (t.val + 5)).val] := by decide +kernel
set_option synthInstance.maxSize 4096 in
theorem start_block_off : ∀ t : Fin grid0.N, hasAhead (grid0.coords t) →
    k0_off6 (grid0.coords t) = ![(Ring.bk 64 (t.val + 5)).val / 8, 32 * ((Ring.bk 64 (t.val + 5)).val % 8), 0, 0] := by decide +kernel

@[sl_canon] theorem wait_slot (t : Fin grid0.N) :
    (scr.slice (Rect.unit (s := S6x32x256x128) (k0_off2 (grid0.coords t)) S1x32x256x128.size (k0_off2_inb (grid0.coords t))) (fun _ => rfl)).squeeze S32x256x128 squeezes_S1x32x256x128_S32x256x128
      = slotM (Ring.sl 6 t.val) := slot_named (wait_slot_off t) _
@[sl_canon] theorem wait_cell (t : Fin grid0.N) :
    (cc0_scratch1.slice (Rect.unit (s := S6) (k0_off1 (grid0.coords t)) S1.size (k0_off1_inb (grid0.coords t)))).squeeze S_ squeezes_S1_S_ = cellM (Ring.sl 6 t.val) :=
  cell_named (wait_cell_off t) _
/-! what is started at a point with a block ahead, … -/
@[sl_canon] theorem start_slot (t : Fin grid0.N) (h : hasAhead (grid0.coords t)) :
    (scr.slice (Rect.unit (s := S6x32x256x128) (k0_off5 (grid0.coords t)) S1x32x256x128.size (k0_off5_inb (grid0.coords t) h)) (fun _ => rfl)).squeeze S32x256x128 squeezes_S1x32x256x128_S32x256x128
      = slotM (Ring.sl 6 (t.val + 5)) := slot_named (start_slot_off t) _
@[sl_canon] theorem start_cell (t : Fin grid0.N) (h : hasAhead (grid0.coords t)) :
    (cc0_scratch1.slice (Rect.unit (s := S6) (k0_off4 (grid0.coords t)) S1.size (k0_off4_inb (grid0.coords t) h))).squeeze S_ squeezes_S1_S_ = cellM (Ring.sl 6 (t.val + 5)) :=
  cell_named (start_cell_off t) _
@[sl_canon] theorem start_block (t : Fin grid0.N) (h : hasAhead (grid0.coords t)) :
    (obs.slice (Rect.unit (s := S8x256x256x128) (k0_off6 (grid0.coords t)) S1x32x256x128.size (k0_off6_inb (grid0.coords t) h)) (fun _ => rfl)).squeeze S32x256x128 squeezes_S1x32x256x128_S32x256x128
      = blockM (Ring.bk 64 (t.val + 5)) := block_named (start_block_off t h) _
/-! and the five copies started at the first point. -/
@[sl_canon] theorem lit_slot0 (t : Fin grid0.N) (h : atFirst (grid0.coords t)) :
    (scr.slice (Rect.unit (s := S6x32x256x128) ![0, 0, 0, 0] S1x32x256x128.size inb_S6x32x256x128_S1x32x256x128_0_0_0_0) (fun _ => rfl)).squeeze S32x256x128 squeezes_S1x32x256x128_S32x256x128
      = slotM (Ring.sl 6 t.val) := slot_named (by rw [first_zero t h]; rfl) _
@[sl_canon] theorem lit_cell0 (t : Fin grid0.N) (h : atFirst (grid0.coords t)) :
    (cc0_scratch1.slice (Rect.unit (s := S6) ![0] S1.size inb_S6_S1_0)).squeeze S_ squeezes_S1_S_ = cellM (Ring.sl 6 t.val) :=
  cell_named (by rw [first_zero t h]; rfl) _
@[sl_canon] theorem lit_block0 (t : Fin grid0.N) (h : atFirst (grid0.coords t)) :
    (obs.slice (Rect.unit (s := S8x256x256x128) ![0, 0, 0, 0] S1x32x256x128.size inb_S8x256x256x128_S1x32x256x128_0_0_0_0) (fun _ => rfl)).squeeze S32x256x128 squeezes_S1x32x256x128_S32x256x128
      = blockM (Ring.bk 64 t.val) := block_named (by rw [first_zero t h]; rfl) _
@[sl_canon] theorem lit_slot1 (t : Fin grid0.N) (h : atFirst (grid0.coords t)) :
    (scr.slice (Rect.unit (s := S6x32x256x128) ![1, 0, 0, 0] S1x32x256x128.size inb_S6x32x256x128_S1x32x256x128_1_0_0_0) (fun _ => rfl)).squeeze S32x256x128 squeezes_S1x32x256x128_S32x256x128
      = slotM (Ring.sl 6 (t.val + 1)) := slot_named (by rw [first_zero t h]; rfl) _
@[sl_canon] theorem lit_cell1 (t : Fin grid0.N) (h : atFirst (grid0.coords t)) :
    (cc0_scratch1.slice (Rect.unit (s := S6) ![1] S1.size inb_S6_S1_1)).squeeze S_ squeezes_S1_S_ = cellM (Ring.sl 6 (t.val + 1)) :=
  cell_named (by rw [first_zero t h]; rfl) _
@[sl_canon] theorem lit_block1 (t : Fin grid0.N) (h : atFirst (grid0.coords t)) :
    (obs.slice (Rect.unit (s := S8x256x256x128) ![0, 32, 0, 0] S1x32x256x128.size inb_S8x256x256x128_S1x32x256x128_0_32_0_0) (fun _ => rfl)).squeeze S32x256x128 squeezes_S1x32x256x128_S32x256x128
      = blockM (Ring.bk 64 (t.val + 1)) := block_named (by rw [first_zero t h]; rfl) _
@[sl_canon] theorem lit_slot2 (t : Fin grid0.N) (h : atFirst (grid0.coords t)) :
    (scr.slice (Rect.unit (s := S6x32x256x128) ![2, 0, 0, 0] S1x32x256x128.size inb_S6x32x256x128_S1x32x256x128_2_0_0_0) (fun _ => rfl)).squeeze S32x256x128 squeezes_S1x32x256x128_S32x256x128
      = slotM (Ring.sl 6 (t.val + 2)) := slot_named (by rw [first_zero t h]; rfl) _
@[sl_canon] theorem lit_cell2 (t : Fin grid0.N) (h : atFirst (grid0.coords t)) :
    (cc0_scratch1.slice (Rect.unit (s := S6) ![2] S1.size inb_S6_S1_2)).squeeze S_ squeezes_S1_S_ = cellM (Ring.sl 6 (t.val + 2)) :=
  cell_named (by rw [first_zero t h]; rfl) _
@[sl_canon] theorem lit_block2 (t : Fin grid0.N) (h : atFirst (grid0.coords t)) :
    (obs.slice (Rect.unit (s := S8x256x256x128) ![0, 64, 0, 0] S1x32x256x128.size inb_S8x256x256x128_S1x32x256x128_0_64_0_0) (fun _ => rfl)).squeeze S32x256x128 squeezes_S1x32x256x128_S32x256x128
      = blockM (Ring.bk 64 (t.val + 2)) := block_named (by rw [first_zero t h]; rfl) _
@[sl_canon] theorem lit_slot3 (t : Fin grid0.N) (h : atFirst (grid0.coords t)) :
    (scr.slice (Rect.unit (s := S6x32x256x128) ![3, 0, 0, 0] S1x32x256x128.size inb_S6x32x256x128_S1x32x256x128_3_0_0_0) (fun _ => rfl)).squeeze S32x256x128 squeezes_S1x32x256x128_S32x256x128
      = slotM (Ring.sl 6 (t.val + 3)) := slot_named (by rw [first_zero t h]; rfl) _
@[sl_canon] theorem lit_cell3 (t : Fin grid0.N) (h : atFirst (grid0.coords t)) :
    (cc0_scratch1.slice (Rect.unit (s := S6) ![3] S1.size inb_S6_S1_3)).squeeze S_ squeezes_S1_S_ = cellM (Ring.sl 6 (t.val + 3)) :=
  cell_named (by rw [first_zero t h]; rfl) _
@[sl_canon] theorem lit_block3 (t : Fin grid0.N) (h : atFirst (grid0.coords t)) :
    (obs.slice (Rect.unit (s := S8x256x256x128) ![0, 96, 0, 0] S1x32x256x128.size inb_S8x256x256x128_S1x32x256x128_0_96_0_0) (fun _ => rfl)).squeeze S32x256x128 squeezes_S1x32x256x128_S32x256x128
      = blockM (Ring.bk 64 (t.val + 3)) := block_named (by rw [first_zero t h]; rfl) _
@[sl_canon] theorem lit_slot4 (t : Fin grid0.N) (h : atFirst (grid0.coords t)) :
    (scr.slice (Rect.unit (s := S6x32x256x128) ![4, 0, 0, 0] S1x32x256x128.size inb_S6x32x256x128_S1x32x256x128_4_0_0_0) (fun _ => rfl)).squeeze S32x256x128 squeezes_S1x32x256x128_S32x256x128
      = slotM (Ring.sl 6 (t.val + 4)) := slot_named (by rw [first_zero t h]; rfl) _
@[sl_canon] theorem lit_cell4 (t : Fin grid0.N) (h : atFirst (grid0.coords t)) :
    (cc0_scratch1.slice (Rect.unit (s := S6) ![4] S1.size inb_S6_S1_4)).squeeze S_ squeezes_S1_S_ = cellM (Ring.sl 6 (t.val + 4)) :=
  cell_named (by rw [first_zero t h]; rfl) _
@[sl_canon] theorem lit_block4 (t : Fin grid0.N) (h : atFirst (grid0.coords t)) :
    (obs.slice (Rect.unit (s := S8x256x256x128) ![0, 128, 0, 0] S1x32x256x128.size inb_S8x256x256x128_S1x32x256x128_0_128_0_0) (fun _ => rfl)).squeeze S32x256x128 squeezes_S1x32x256x128_S32x256x128
      = blockM (Ring.bk 64 (t.val + 4)) := block_named (by rw [first_zero t h]; rfl) _

/-- The row loads' offsets: row `r` of the slot of the point. -/
theorem rowOff {o : grid0.Coords → Fin 4 → Nat} (r : Nat) (h : ∀ i, o i = ![k0_off2 i 0, r, 0, 0]) (t : Fin cfg0.N) :
    o (grid0.coords t) = ![(Ring.sl 6 t.val).val, r, 0, 0] := by
  rw [h, wait_slot_off t]; rfl
instance (priority := high) rowBox0 (t : Fin cfg0.N) : ClosedOff (k0_off7 (grid0.coords t)) := ⟨_, rowOff (o := k0_off7) 0 (fun _ => rfl) t⟩
instance (priority := high) rowBox1 (t : Fin cfg0.N) : ClosedOff (k0_off8 (grid0.coords t)) := ⟨_, rowOff (o := k0_off8) 1 (fun _ => rfl) t⟩
instance (priority := high) rowBox2 (t : Fin cfg0.N) : ClosedOff (k0_off9 (grid0.coords t)) := ⟨_, rowOff (o := k0_off9) 2 (fun _ => rfl) t⟩
instance (priority := high) rowBox3 (t : Fin cfg0.N) : ClosedOff (k0_off10 (grid0.coords t)) := ⟨_, rowOff (o := k0_off10) 3 (fun _ => rfl) t⟩
instance (priority := high) rowBox4 (t : Fin cfg0.N) : ClosedOff (k0_off11 (grid0.coords t)) := ⟨_, rowOff (o := k0_off11) 4 (fun _ => rfl) t⟩
instance (priority := high) rowBox5 (t : Fin cfg0.N) : ClosedOff (k0_off12 (grid0.coords t)) := ⟨_, rowOff (o := k0_off12) 5 (fun _ => rfl) t⟩
instance (priority := high) rowBox6 (t : Fin cfg0.N) : ClosedOff (k0_off13 (grid0.coords t)) := ⟨_, rowOff (o := k0_off13) 6 (fun _ => rfl) t⟩
instance (priority := high) rowBox7 (t : Fin cfg0.N) : ClosedOff (k0_off14 (grid0.coords t)) := ⟨_, rowOff (o := k0_off14) 7 (fun _ => rfl) t⟩
instance (priority := high) rowBox8 (t : Fin cfg0.N) : ClosedOff (k0_off15 (grid0.coords t)) := ⟨_, rowOff (o := k0_off15) 8 (fun _ => rfl) t⟩
instance (priority := high) rowBox9 (t : Fin cfg0.N) : ClosedOff (k0_off16 (grid0.coords t)) := ⟨_, rowOff (o := k0_off16) 9 (fun _ => rfl) t⟩
instance (priority := high) rowBox10 (t : Fin cfg0.N) : ClosedOff (k0_off17 (grid0.coords t)) := ⟨_, rowOff (o := k0_off17) 10 (fun _ => rfl) t⟩
instance (priority := high) rowBox11 (t : Fin cfg0.N) : ClosedOff (k0_off18 (grid0.coords t)) := ⟨_, rowOff (o := k0_off18) 11 (fun _ => rfl) t⟩
instance (priority := high) rowBox12 (t : Fin cfg0.N) : ClosedOff (k0_off19 (grid0.coords t)) := ⟨_, rowOff (o := k0_off19) 12 (fun _ => rfl) t⟩
instance (priority := high) rowBox13 (t : Fin cfg0.N) : ClosedOff (k0_off20 (grid0.coords t)) := ⟨_, rowOff (o := k0_off20) 13 (fun _ => rfl) t⟩
instance (priority := high) rowBox14 (t : Fin cfg0.N) : ClosedOff (k0_off21 (grid0.coords t)) := ⟨_, rowOff (o := k0_off21) 14 (fun _ => rfl) t⟩
instance (priority := high) rowBox15 (t : Fin cfg0.N) : ClosedOff (k0_off22 (grid0.coords t)) := ⟨_, rowOff (o := k0_off22) 15 (fun _ => rfl) t⟩
instance (priority := high) rowBox16 (t : Fin cfg0.N) : ClosedOff (k0_off23 (grid0.coords t)) := ⟨_, rowOff (o := k0_off23) 16 (fun _ => rfl) t⟩
instance (priority := high) rowBox17 (t : Fin cfg0.N) : ClosedOff (k0_off24 (grid0.coords t)) := ⟨_, rowOff (o := k0_off24) 17 (fun _ => rfl) t⟩
instance (priority := high) rowBox18 (t : Fin cfg0.N) : ClosedOff (k0_off25 (grid0.coords t)) := ⟨_, rowOff (o := k0_off25) 18 (fun _ => rfl) t⟩
instance (priority := high) rowBox19 (t : Fin cfg0.N) : ClosedOff (k0_off26 (grid0.coords t)) := ⟨_, rowOff (o := k0_off26) 19 (fun _ => rfl) t⟩
instance (priority := high) rowBox20 (t : Fin cfg0.N) : ClosedOff (k0_off27 (grid0.coords t)) := ⟨_, rowOff (o := k0_off27) 20 (fun _ => rfl) t⟩
instance (priority := high) rowBox21 (t : Fin cfg0.N) : ClosedOff (k0_off28 (grid0.coords t)) := ⟨_, rowOff (o := k0_off28) 21 (fun _ => rfl) t⟩
instance (priority := high) rowBox22 (t : Fin cfg0.N) : ClosedOff (k0_off29 (grid0.coords t)) := ⟨_, rowOff (o := k0_off29) 22 (fun _ => rfl) t⟩
instance (priority := high) rowBox23 (t : Fin cfg0.N) : ClosedOff (k0_off30 (grid0.coords t)) := ⟨_, rowOff (o := k0_off30) 23 (fun _ => rfl) t⟩
instance (priority := high) rowBox24 (t : Fin cfg0.N) : ClosedOff (k0_off31 (grid0.coords t)) := ⟨_, rowOff (o := k0_off31) 24 (fun _ => rfl) t⟩
instance (priority := high) rowBox25 (t : Fin cfg0.N) : ClosedOff (k0_off32 (grid0.coords t)) := ⟨_, rowOff (o := k0_off32) 25 (fun _ => rfl) t⟩
instance (priority := high) rowBox26 (t : Fin cfg0.N) : ClosedOff (k0_off33 (grid0.coords t)) := ⟨_, rowOff (o := k0_off33) 26 (fun _ => rfl) t⟩
instance (priority := high) rowBox27 (t : Fin cfg0.N) : ClosedOff (k0_off34 (grid0.coords t)) := ⟨_, rowOff (o := k0_off34) 27 (fun _ => rfl) t⟩
instance (priority := high) rowBox28 (t : Fin cfg0.N) : ClosedOff (k0_off35 (grid0.coords t)) := ⟨_, rowOff (o := k0_off35) 28 (fun _ => rfl) t⟩
instance (priority := high) rowBox29 (t : Fin cfg0.N) : ClosedOff (k0_off36 (grid0.coords t)) := ⟨_, rowOff (o := k0_off36) 29 (fun _ => rfl) t⟩
instance (priority := high) rowBox30 (t : Fin cfg0.N) : ClosedOff (k0_off37 (grid0.coords t)) := ⟨_, rowOff (o := k0_off37) 30 (fun _ => rfl) t⟩
instance (priority := high) rowBox31 (t : Fin cfg0.N) : ClosedOff (k0_off38 (grid0.coords t)) := ⟨_, rowOff (o := k0_off38) 31 (fun _ => rfl) t⟩

/-! ## The ring's pieces -/

section Pieces
variable (c : Dev nD) (W : BufOf (F := F) c obs)

/-- The observations are lent by share: one read share per slot. -/
def lendShare (s : Fin 6) : PosShare TreeShare :=
  ![fullShare.left, fullShare.right.left, fullShare.right.right.left, fullShare.right.right.right.left,
    fullShare.right.right.right.right.left, fullShare.right.right.right.right.right] s

/-- Slot `s` held at contents `f`. -/
abbrev slotAt (s : Fin 6) (f : BufOf (F := F) c (slotM s)) : sProp 𝕄 := (slotM s).view.loc (c : Thread nD τ) ↦[(slotM s).view.set]{fullShare} f
/-- Slot `s`'s share of block `b`. -/
abbrev lent (s : Fin 6) (b : Fin 64) : sProp 𝕄 := (blockM b).view.loc (c : Thread nD τ) ↦[(blockM b).view.set]{lendShare s} W
/-- Slot `s`'s share of all the observations but block `b`. -/
def unlent (s : Fin 6) (b : Fin 64) : sProp 𝕄 := ((c : Thread nD τ).loc main_arg0) ↦[Finset.univ \ (blockM b).view.set]{lendShare s} W
/-- Slot `s`'s share of all the observations. -/
abbrev share (s : Fin 6) : sProp 𝕄 := ((c : Thread nD τ).loc main_arg0) ↦[Finset.univ]{lendShare s} W
/-- Slot `s`'s contents once block `b` has landed over `f`. -/
abbrev landed (s : Fin 6) (b : Fin 64) (f : BufOf (F := F) c (slotM s)) : BufOf (F := F) c (slotM s) :=
  (slotM s).view.writes (Elt F) f [⟨Rect.whole S32x256x128, ReadAs.same.apply ((blockM b).view.read (Elt F) W)⟩]
/-- The copy of block `b` into slot `s`, under way over contents `f`. -/
abbrev copying (s : Fin 6) (b : Fin 64) (f : BufOf (F := F) c (slotM s)) : sProp 𝕄 :=
  Transfers.Flight countersEmb (c : Thread nD τ) (cellR s) default ((slotM s).view.amount (cellR s))
    iprop(slotAt c s (landed c W s b f) ∗ lent c W s b)

/-- Slot `s` in flight with block `b`. -/
def flying (s : Fin 6) (b : Fin 64) : sProp 𝕄 := iprop(∃ f, copying c W s b f ∗ unlent c W s b)
/-- Slot `s` idle: its cell at zero, its contents anything, its share of the observations back. -/
def resting (s : Fin 6) : sProp 𝕄 := iprop(semVal ((c : Thread nD τ), cellR s) 0 ∗ (∃ f, slotAt c s f) ∗ share c W s)
/-- Slot `k` modulo six once step `k`'s copy has been started, if there is such a block. -/
def stage (k : ℕ) : sProp 𝕄 := if k < 64 then flying c W (Ring.sl 6 k) (Ring.bk 64 k) else resting c W (Ring.sl 6 k)
/-- The ring before point `k`: idle before the first; then five started and one idle. -/
def ringInv (k : ℕ) : sProp 𝕄 :=
  if k = 0 then iprop(resting c W 0 ∗ resting c W 1 ∗ resting c W 2 ∗ resting c W 3 ∗ resting c W 4 ∗ resting c W 5)
  else iprop(stage c W k ∗ stage c W (k + 1) ∗ stage c W (k + 2) ∗ stage c W (k + 3) ∗ stage c W (k + 4) ∗ resting c W (Ring.sl 6 (k + 5)))

/-- A slot's share is its share of block `b` and the rest. -/
theorem share_split (s : Fin 6) (b : Fin 64) : share (F := F) c W s ⊣⊢ iprop(lent c W s b ∗ unlent c W s b) := by
  unfold unlent; exact pointsTo_split_subset (Finset.subset_univ _)

end Pieces

end Cert.KernelIdeal.Own

end
-- ==== Proof.K.Block.lean ====
module

public import proofs.«01_k».proof.Proof.K.Ring
public import Idealize.ShloMosaic.Lib.VecWindow
public import Idealize.ShloMosaic.Lib.ValueLayout

@[expose] public section

set_option maxRecDepth 16384

noncomputable section

/-!
What one point stores: the two blocks of controls as functions of the gate's weights, its bias and the 32 rows of
observations of the point's block; and, at the first point of a batch entry, the decoded scores.
-/

namespace Cert.KernelIdeal.Own

open Idealize.ShloMosaic Idealize.ShloMosaic.TcCoe Idealize.ShloMosaic.Tactic
open Idealize.ShloMosaic.ValueIdx Cert.KernelIdeal.Gen

variable {F : FTy → Type} [FloatOps F]

/-! ## The stored values -/

/-- Row `r` of block `b` of the observations, as a load of one row of a slot reads it. -/
def obsRow (W : Vec F S8x256x256x128 .f32) (b : Fin 64) (r : ℕ) : Vec F S1x1x256x128 .f32 :=
  fun j => W (ix4 (⟨b.val / 8, by omega⟩ : Fin 8) (⟨(32 * (b.val % 8) + r) % 256, by omega⟩ : Fin 256) (j 2 : Fin 256) (j 3 : Fin 128))

/-- One row's scores: the gate's weights against the row. -/
def strip (w : Vec F S1x128 .f32) (row : Vec F S1x1x256x128 .f32) : FVec F S1x256 .f32 := k0_pay11 w row

/-- The first control's block, of the 32 rows. -/
def c0Of (w : Vec F S1x128 .f32) (b : Vec F S1x1 .f32) (rows : ℕ → Vec F S1x1x256x128 .f32) : FVec F S1x32x256 .f32 :=
  k0_pay46 (strip w (rows 0)) (strip w (rows 1)) (strip w (rows 2)) (strip w (rows 3)) (strip w (rows 4)) (strip w (rows 5)) (strip w (rows 6)) (strip w (rows 7)) (strip w (rows 8)) (strip w (rows 9)) (strip w (rows 10)) (strip w (rows 11)) (strip w (rows 12)) (strip w (rows 13)) (strip w (rows 14)) (strip w (rows 15)) (strip w (rows 16)) (strip w (rows 17)) (strip w (rows 18)) (strip w (rows 19)) (strip w (rows 20)) (strip w (rows 21)) (strip w (rows 22)) (strip w (rows 23)) (strip w (rows 24)) (strip w (rows 25)) (strip w (rows 26)) (strip w (rows 27)) (strip w (rows 28)) (strip w (rows 29)) (strip w (rows 30)) w (rows 31) b
/-- The second control's block. -/
def c1Of (w : Vec F S1x128 .f32) (b : Vec F S1x1 .f32) (rows : ℕ → Vec F S1x1x256x128 .f32) : FVec F S1x32x256 .f32 :=
  k0_pay47 (strip w (rows 0)) (strip w (rows 1)) (strip w (rows 2)) (strip w (rows 3)) (strip w (rows 4)) (strip w (rows 5)) (strip w (rows 6)) (strip w (rows 7)) (strip w (rows 8)) (strip w (rows 9)) (strip w (rows 10)) (strip w (rows 11)) (strip w (rows 12)) (strip w (rows 13)) (strip w (rows 14)) (strip w (rows 15)) (strip w (rows 16)) (strip w (rows 17)) (strip w (rows 18)) (strip w (rows 19)) (strip w (rows 20)) (strip w (rows 21)) (strip w (rows 22)) (strip w (rows 23)) (strip w (rows 24)) (strip w (rows 25)) (strip w (rows 26)) (strip w (rows 27)) (strip w (rows 28)) (strip w (rows 29)) (strip w (rows 30)) w (rows 31) b

/-- Gamma of one batch entry's scores. -/
def gammaOf (x : Vec F S1x256x256 .f32) : FVec F S1x256x256 .f32 :=
  k0_pay7 (iota .tc S256x256 32 [1] iota_S256x256_d1_w32) (iota .tc S256x1 32 [0] iota_S256x1_d0_w32) (k0_pay2 x) (k0_pay3 x) k0_pay4 k0_pay5
/-- The write weights of one batch entry's scores. -/
def writeOf (x : Vec F S1x256x256 .f32) : FVec F S1x255x256 .f32 :=
  k0_pay8 (iota .tc S256x256 32 [1] iota_S256x256_d1_w32) (iota .tc S256x1 32 [0] iota_S256x1_d0_w32) (k0_pay2 x) (k0_pay3 x) k0_pay4 k0_pay5
/-- The read weights of one batch entry's scores. -/
def readOf (x : Vec F S1x256x256 .f32) : FVec F S1x255x256 .f32 :=
  k0_pay1 (k0_pay9 (iota .tc S256x256 32 [1] iota_S256x256_d1_w32) (iota .tc S256x1 32 [0] iota_S256x1_d0_w32) (k0_pay2 x) (k0_pay3 x) k0_pay4 k0_pay5) k0_pay10

/-! ## Reading a slot in which a block has landed -/

section Load
variable (c : Dev nD)

omit [FloatOps F] in
/-- Slot `s` reads the scratch at its own leading coordinate. -/
theorem slot_read (s : Fin 6) (g : BufOf (F := F) c (slotM s)) (x : Fin 32) (y : Fin 256) (z : Fin 128) :
    (slotM s).view.read (Elt F) g (ix3 x y z) = scr.view.read (Elt F) g (ix4 s x y z) := by
  have h1 : (slotM s).view.read (Elt F) g (ix3 x y z)
      = scr.view.read (Elt F) g ((Rect.unit (s := S6x32x256x128) ![s.val, 0, 0, 0] S1x32x256x128.size (slot_inb s)).emb
          (Shape.reshapeEquiv squeezes_S1x32x256x128_S32x256x128.numel_eq (ix3 x y z))) := rfl
  rw [h1, reshapeEquiv_ix3_1abc]
  congr 1
  funext a; apply Fin.ext; rw [Rect.emb_apply]
  fin_cases a <;> simp [Rect.unit, ix4]

omit [FloatOps F] in
/-- Block `b` reads the observations at its batch entry and its 32 rows. -/
theorem block_read (W : BufOf (F := F) c obs) (b : Fin 64) (x : Fin 32) (y : Fin 256) (z : Fin 128) :
    (blockM b).view.read (Elt F) W (ix3 x y z)
      = W (ix4 (⟨b.val / 8, by omega⟩ : Fin 8) (⟨32 * (b.val % 8) + x.val, by omega⟩ : Fin 256) y z) := by
  have h1 : (blockM b).view.read (Elt F) W (ix3 x y z)
      = W ((Rect.unit (s := S8x256x256x128) ![b.val / 8, 32 * (b.val % 8), 0, 0] S1x32x256x128.size (block_inb b)).emb
          (Shape.reshapeEquiv squeezes_S1x32x256x128_S32x256x128.numel_eq (ix3 x y z))) := rfl
  rw [h1, reshapeEquiv_ix3_1abc]
  congr 1
  funext a; apply Fin.ext; rw [Rect.emb_apply]
  fin_cases a <;> simp [Rect.unit, ix4]

/-- A load of one row of slot `s`, once block `b` has landed there, is that row of the block. -/
theorem row_load (W : BufOf (F := F) c obs) (s : Fin 6) (b : Fin 64) (g : BufOf (F := F) c (slotM s)) (o : Fin 4 → Nat)
    (ib : ∀ a, o a + S1x1x256x128.size a ≤ S6x32x256x128.size a) (h0 : o 0 = s.val) (h2 : o 2 = 0) (h3 : o 3 = 0) :
    View.readAt (Elt F) scr.view (Rect.unit (s := S6x32x256x128) o S1x1x256x128.size ib).toLoadRect
        ((slotM s).view.writes (Elt F) g [⟨Rect.whole S32x256x128, ReadAs.same.apply ((blockM b).view.read (Elt F) W)⟩])
      = obsRow W b (o 1) := by
  funext j
  have hr : o 1 < 32 := by have := ib 1; simp at this; omega
  have hj : (Rect.unit (s := S6x32x256x128) o S1x1x256x128.size ib).toLoadRect.idx j = ix4 s (⟨o 1, hr⟩ : Fin 32) (j 2 : Fin 256) (j 3 : Fin 128) := by
    funext a; apply Fin.ext
    have hj0 : (j 0).val = 0 := by have := (j 0).isLt; simp at this; omega
    have hj1 : (j 1).val = 0 := by have := (j 1).isLt; simp at this; omega
    fin_cases a <;> simp [ix4, Rect.toLoadRect, LoadRect.idx, Rect.unit, h0, h2, h3, hj0, hj1]
  show scr.view.read (Elt F) _ (LoadRect.idx _ j) = _
  rw [hj]
  refine (slot_read c s _ _ _ _).symm.trans ?_
  rw [View.read_writes_whole]
  refine (block_read c W b _ _ _).trans ?_
  unfold obsRow
  congr 2
  apply Fin.ext
  show 32 * (b.val % 8) + o 1 = (32 * (b.val % 8) + o 1) % 256
  omega

/-- The loads that the body makes of the slot of its point, as the executor spells them. -/
theorem loads_c0 (t : Fin cfg0.N) (W : BufOf (F := F) c obs) (g : BufOf (F := F) c (slotM (Ring.sl 6 t.val)))
    (w : Vec F S1x128 .f32) (b : Vec F S1x1 .f32) (rd : Vec F S1x128 .f32) (hrd : rd = w) (bd : Vec F S1x1 .f32) (hbd : bd = b)
    (ld : (o : Fin 4 → Nat) → (∀ a, o a + S1x1x256x128.size a ≤ S6x32x256x128.size a) → Vec F S1x1x256x128 .f32)
    (hld : ld = fun o ib => View.readAt (Elt F) scr.view (Rect.unit (s := S6x32x256x128) o S1x1x256x128.size ib).toLoadRect (landed c W (Ring.sl 6 t.val) (Ring.bk 64 t.val) g)) :
    k0_pay46 (k0_pay11 rd (ld (k0_off7 (grid0.coords t)) (k0_off7_inb (grid0.coords t))))
        (k0_pay12 rd (ld (k0_off8 (grid0.coords t)) (k0_off8_inb (grid0.coords t))))
        (k0_pay13 rd (ld (k0_off9 (grid0.coords t)) (k0_off9_inb (grid0.coords t))))
        (k0_pay14 rd (ld (k0_off10 (grid0.coords t)) (k0_off10_inb (grid0.coords t))))
        (k0_pay16 rd (k0_pay15 (ld (k0_off11 (grid0.coords t)) (k0_off11_inb (grid0.coords t)))))
        (k0_pay17 rd (ld (k0_off12 (grid0.coords t)) (k0_off12_inb (grid0.coords t))))
        (k0_pay18 rd (ld (k0_off13 (grid0.coords t)) (k0_off13_inb (grid0.coords t))))
        (k0_pay19 rd (ld (k0_off14 (grid0.coords t)) (k0_off14_inb (grid0.coords t))))
        (k0_pay20 rd (ld (k0_off15 (grid0.coords t)) (k0_off15_inb (grid0.coords t))))
        (k0_pay21 rd (ld (k0_off16 (grid0.coords t)) (k0_off16_inb (grid0.coords t))))
        (k0_pay22 rd (ld (k0_off17 (grid0.coords t)) (k0_off17_inb (grid0.coords t))))
        (k0_pay23 rd (ld (k0_off18 (grid0.coords t)) (k0_off18_inb (grid0.coords t))))
        (k0_pay24 rd (ld (k0_off19 (grid0.coords t)) (k0_off19_inb (grid0.coords t))))
        (k0_pay25 rd (ld (k0_off20 (grid0.coords t)) (k0_off20_inb (grid0.coords t))))
        (k0_pay26 rd (ld (k0_off21 (grid0.coords t)) (k0_off21_inb (grid0.coords t))))
        (k0_pay27 rd (ld (k0_off22 (grid0.coords t)) (k0_off22_inb (grid0.coords t))))
        (k0_pay28 rd (ld (k0_off23 (grid0.coords t)) (k0_off23_inb (grid0.coords t))))
        (k0_pay29 rd (ld (k0_off24 (grid0.coords t)) (k0_off24_inb (grid0.coords t))))
        (k0_pay30 rd (ld (k0_off25 (grid0.coords t)) (k0_off25_inb (grid0.coords t))))
        (k0_pay31 rd (ld (k0_off26 (grid0.coords t)) (k0_off26_inb (grid0.coords t))))
        (k0_pay32 rd (ld (k0_off27 (grid0.coords t)) (k0_off27_inb (grid0.coords t))))
        (k0_pay33 rd (ld (k0_off28 (grid0.coords t)) (k0_off28_inb (grid0.coords t))))
        (k0_pay34 rd (ld (k0_off29 (grid0.coords t)) (k0_off29_inb (grid0.coords t))))
        (k0_pay35 rd (ld (k0_off30 (grid0.coords t)) (k0_off30_inb (grid0.coords t))))
        (k0_pay37 rd (k0_pay36 (ld (k0_off31 (grid0.coords t)) (k0_off31_inb (grid0.coords t)))))
        (k0_pay38 rd (ld (k0_off32 (grid0.coords t)) (k0_off32_inb (grid0.coords t))))
        (k0_pay39 rd (ld (k0_off33 (grid0.coords t)) (k0_off33_inb (grid0.coords t))))
        (k0_pay40 rd (ld (k0_off34 (grid0.coords t)) (k0_off34_inb (grid0.coords t))))
        (k0_pay41 rd (ld (k0_off35 (grid0.coords t)) (k0_off35_inb (grid0.coords t))))
        (k0_pay42 rd (ld (k0_off36 (grid0.coords t)) (k0_off36_inb (grid0.coords t))))
        (k0_pay43 rd (ld (k0_off37 (grid0.coords t)) (k0_off37_inb (grid0.coords t))))
        rd (ld (k0_off38 (grid0.coords t)) (k0_off38_inb (grid0.coords t))) bd
      = c0Of w b (obsRow W (Ring.bk 64 t.val)) := by
  have hs : ∀ (o : Fin 4 → Nat) ib, o 0 = k0_off2 (grid0.coords t) 0 → o 2 = 0 → o 3 = 0 → ld o ib = obsRow W (Ring.bk 64 t.val) (o 1) := by
    intro o ib h0 h2 h3
    rw [hld]
    exact row_load c W _ _ g o ib (h0.trans (by rw [wait_slot_off t]; rfl)) h2 h3
  subst hrd hbd
  rw [hs (k0_off7 _) _ rfl rfl rfl, hs (k0_off8 _) _ rfl rfl rfl, hs (k0_off9 _) _ rfl rfl rfl, hs (k0_off10 _) _ rfl rfl rfl, hs (k0_off11 _) _ rfl rfl rfl, hs (k0_off12 _) _ rfl rfl rfl, hs (k0_off13 _) _ rfl rfl rfl, hs (k0_off14 _) _ rfl rfl rfl, hs (k0_off15 _) _ rfl rfl rfl, hs (k0_off16 _) _ rfl rfl rfl, hs (k0_off17 _) _ rfl rfl rfl, hs (k0_off18 _) _ rfl rfl rfl, hs (k0_off19 _) _ rfl rfl rfl, hs (k0_off20 _) _ rfl rfl rfl, hs (k0_off21 _) _ rfl rfl rfl, hs (k0_off22 _) _ rfl rfl rfl, hs (k0_off23 _) _ rfl rfl rfl, hs (k0_off24 _) _ rfl rfl rfl, hs (k0_off25 _) _ rfl rfl rfl, hs (k0_off26 _) _ rfl rfl rfl, hs (k0_off27 _) _ rfl rfl rfl, hs (k0_off28 _) _ rfl rfl rfl, hs (k0_off29 _) _ rfl rfl rfl, hs (k0_off30 _) _ rfl rfl rfl, hs (k0_off31 _) _ rfl rfl rfl, hs (k0_off32 _) _ rfl rfl rfl, hs (k0_off33 _) _ rfl rfl rfl, hs (k0_off34 _) _ rfl rfl rfl, hs (k0_off35 _) _ rfl rfl rfl, hs (k0_off36 _) _ rfl rfl rfl, hs (k0_off37 _) _ rfl rfl rfl, hs (k0_off38 _) _ rfl rfl rfl]
  rfl
/-- The same for the second control. -/
theorem loads_c1 (t : Fin cfg0.N) (W : BufOf (F := F) c obs) (g : BufOf (F := F) c (slotM (Ring.sl 6 t.val)))
    (w : Vec F S1x128 .f32) (b : Vec F S1x1 .f32) (rd : Vec F S1x128 .f32) (hrd : rd = w) (bd : Vec F S1x1 .f32) (hbd : bd = b)
    (ld : (o : Fin 4 → Nat) → (∀ a, o a + S1x1x256x128.size a ≤ S6x32x256x128.size a) → Vec F S1x1x256x128 .f32)
    (hld : ld = fun o ib => View.readAt (Elt F) scr.view (Rect.unit (s := S6x32x256x128) o S1x1x256x128.size ib).toLoadRect (landed c W (Ring.sl 6 t.val) (Ring.bk 64 t.val) g)) :
    k0_pay47 (k0_pay11 rd (ld (k0_off7 (grid0.coords t)) (k0_off7_inb (grid0.coords t))))
        (k0_pay12 rd (ld (k0_off8 (grid0.coords t)) (k0_off8_inb (grid0.coords t))))
        (k0_pay13 rd (ld (k0_off9 (grid0.coords t)) (k0_off9_inb (grid0.coords t))))
        (k0_pay14 rd (ld (k0_off10 (grid0.coords t)) (k0_off10_inb (grid0.coords t))))
        (k0_pay16 rd (k0_pay15 (ld (k0_off11 (grid0.coords t)) (k0_off11_inb (grid0.coords t)))))
        (k0_pay17 rd (ld (k0_off12 (grid0.coords t)) (k0_off12_inb (grid0.coords t))))
        (k0_pay18 rd (ld (k0_off13 (grid0.coords t)) (k0_off13_inb (grid0.coords t))))
        (k0_pay19 rd (ld (k0_off14 (grid0.coords t)) (k0_off14_inb (grid0.coords t))))
        (k0_pay20 rd (ld (k0_off15 (grid0.coords t)) (k0_off15_inb (grid0.coords t))))
        (k0_pay21 rd (ld (k0_off16 (grid0.coords t)) (k0_off16_inb (grid0.coords t))))
        (k0_pay22 rd (ld (k0_off17 (grid0.coords t)) (k0_off17_inb (grid0.coords t))))
        (k0_pay23 rd (ld (k0_off18 (grid0.coords t)) (k0_off18_inb (grid0.coords t))))
        (k0_pay24 rd (ld (k0_off19 (grid0.coords t)) (k0_off19_inb (grid0.coords t))))
        (k0_pay25 rd (ld (k0_off20 (grid0.coords t)) (k0_off20_inb (grid0.coords t))))
        (k0_pay26 rd (ld (k0_off21 (grid0.coords t)) (k0_off21_inb (grid0.coords t))))
        (k0_pay27 rd (ld (k0_off22 (grid0.coords t)) (k0_off22_inb (grid0.coords t))))
        (k0_pay28 rd (ld (k0_off23 (grid0.coords t)) (k0_off23_inb (grid0.coords t))))
        (k0_pay29 rd (ld (k0_off24 (grid0.coords t)) (k0_off24_inb (grid0.coords t))))
        (k0_pay30 rd (ld (k0_off25 (grid0.coords t)) (k0_off25_inb (grid0.coords t))))
        (k0_pay31 rd (ld (k0_off26 (grid0.coords t)) (k0_off26_inb (grid0.coords t))))
        (k0_pay32 rd (ld (k0_off27 (grid0.coords t)) (k0_off27_inb (grid0.coords t))))
        (k0_pay33 rd (ld (k0_off28 (grid0.coords t)) (k0_off28_inb (grid0.coords t))))
        (k0_pay34 rd (ld (k0_off29 (grid0.coords t)) (k0_off29_inb (grid0.coords t))))
        (k0_pay35 rd (ld (k0_off30 (grid0.coords t)) (k0_off30_inb (grid0.coords t))))
        (k0_pay37 rd (k0_pay36 (ld (k0_off31 (grid0.coords t)) (k0_off31_inb (grid0.coords t)))))
        (k0_pay38 rd (ld (k0_off32 (grid0.coords t)) (k0_off32_inb (grid0.coords t))))
        (k0_pay39 rd (ld (k0_off33 (grid0.coords t)) (k0_off33_inb (grid0.coords t))))
        (k0_pay40 rd (ld (k0_off34 (grid0.coords t)) (k0_off34_inb (grid0.coords t))))
        (k0_pay41 rd (ld (k0_off35 (grid0.coords t)) (k0_off35_inb (grid0.coords t))))
        (k0_pay42 rd (ld (k0_off36 (grid0.coords t)) (k0_off36_inb (grid0.coords t))))
        (k0_pay43 rd (ld (k0_off37 (grid0.coords t)) (k0_off37_inb (grid0.coords t))))
        rd (ld (k0_off38 (grid0.coords t)) (k0_off38_inb (grid0.coords t))) bd
      = c1Of w b (obsRow W (Ring.bk 64 t.val)) := by
  have hs : ∀ (o : Fin 4 → Nat) ib, o 0 = k0_off2 (grid0.coords t) 0 → o 2 = 0 → o 3 = 0 → ld o ib = obsRow W (Ring.bk 64 t.val) (o 1) := by
    intro o ib h0 h2 h3
    rw [hld]
    exact row_load c W _ _ g o ib (h0.trans (by rw [wait_slot_off t]; rfl)) h2 h3
  subst hrd hbd
  rw [hs (k0_off7 _) _ rfl rfl rfl, hs (k0_off8 _) _ rfl rfl rfl, hs (k0_off9 _) _ rfl rfl rfl, hs (k0_off10 _) _ rfl rfl rfl, hs (k0_off11 _) _ rfl rfl rfl, hs (k0_off12 _) _ rfl rfl rfl, hs (k0_off13 _) _ rfl rfl rfl, hs (k0_off14 _) _ rfl rfl rfl, hs (k0_off15 _) _ rfl rfl rfl, hs (k0_off16 _) _ rfl rfl rfl, hs (k0_off17 _) _ rfl rfl rfl, hs (k0_off18 _) _ rfl rfl rfl, hs (k0_off19 _) _ rfl rfl rfl, hs (k0_off20 _) _ rfl rfl rfl, hs (k0_off21 _) _ rfl rfl rfl, hs (k0_off22 _) _ rfl rfl rfl, hs (k0_off23 _) _ rfl rfl rfl, hs (k0_off24 _) _ rfl rfl rfl, hs (k0_off25 _) _ rfl rfl rfl, hs (k0_off26 _) _ rfl rfl rfl, hs (k0_off27 _) _ rfl rfl rfl, hs (k0_off28 _) _ rfl rfl rfl, hs (k0_off29 _) _ rfl rfl rfl, hs (k0_off30 _) _ rfl rfl rfl, hs (k0_off31 _) _ rfl rfl rfl, hs (k0_off32 _) _ rfl rfl rfl, hs (k0_off33 _) _ rfl rfl rfl, hs (k0_off34 _) _ rfl rfl rfl, hs (k0_off35 _) _ rfl rfl rfl, hs (k0_off36 _) _ rfl rfl rfl, hs (k0_off37 _) _ rfl rfl rfl, hs (k0_off38 _) _ rfl rfl rfl]
  rfl

end Load

end Cert.KernelIdeal.Own

end
-- ==== Proof.K.Body.lean ====
module

public import proofs.«01_k».proof.Proof.K.Block

@[expose] public section

set_option maxRecDepth 16384

noncomputable section

/-!
The body at one point, in its four cases: the first point (five copies started beforehand), the first point of a later
batch entry, a middle point, and a point with no further block to start.  Each triple says what the body stores.
-/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section Body

variable (c : Dev nD) (t : Fin cfg0.N) (arg2 : Memref sig .tc .vmem S1x128 .f32) (harg2 : arg2.IsWhole) (arg3 : Memref sig .tc .vmem S1x1 .f32) (harg3 : arg3.IsWhole)
  (arg4 : Memref sig .tc .vmem S1x256x256 .f32) (harg4 : arg4.IsWhole) (arg6 : Memref sig .tc .vmem S1x32x256 .f32) (harg6 : arg6.IsWhole)
  (arg7 : Memref sig .tc .vmem S1x32x256 .f32) (harg7 : arg7.IsWhole) (arg8 : Memref sig .tc .vmem S1x256x256 .f32) (harg8 : arg8.IsWhole)
  (arg9 : Memref sig .tc .vmem S1x255x256 .f32) (harg9 : arg9.IsWhole) (arg10 : Memref sig .tc .vmem S1x255x256 .f32) (harg10 : arg10.IsWhole)
  (x0 : Vec F S1x128 .f32) (x1 : Vec F S1x1 .f32) (x2 : Vec F S1x256x256 .f32) (d5 : Vec F S1x256x256 .f32) (d6 d7 : Vec F S1x255x256 .f32) (fh : BufOf (F := F) c obs)

/-- The body at point `t` on these operands. -/
abbrev bodyOn : Prog (TpuEff nD τ sig (Elt F) Λ₀ .tc) PUnit :=
  cc0__body (grid0.coords t) arg2 harg2 arg3 harg3 arg4 harg4 (Memref.whole main_arg0) (Memref.isWhole_whole _) arg6 harg6 arg7 harg7 arg8 harg8 arg9 harg9 arg10 harg10 scr (Memref.isWhole_whole _) cc0_scratch1

/-- The three staged inputs, at their contents. -/
abbrev inputs : sProp 𝕄 :=
  iprop(owns (c : Thread nD τ) arg2 fullShare x0 ∗ owns (c : Thread nD τ) arg3 fullShare x1 ∗ owns (c : Thread nD τ) arg4 fullShare x2)
/-- The staged controls, at anything. -/
abbrev controlsAny : sProp 𝕄 := iprop((∃ d, owns (c : Thread nD τ) arg6 fullShare d) ∗ (∃ d, owns (c : Thread nD τ) arg7 fullShare d))
/-- The staged controls, holding the point's block. -/
abbrev controlsDone : sProp 𝕄 :=
  iprop(owns (c : Thread nD τ) arg6 fullShare (c0Of x0 x1 (obsRow fh (Ring.bk 64 t.val))) ∗ owns (c : Thread nD τ) arg7 fullShare (c1Of x0 x1 (obsRow fh (Ring.bk 64 t.val))))
/-- The staged decoded scores at anything. -/
abbrev decodedAny : sProp 𝕄 :=
  iprop((∃ d, owns (c : Thread nD τ) arg8 fullShare d) ∗ (∃ d, owns (c : Thread nD τ) arg9 fullShare d) ∗ (∃ d, owns (c : Thread nD τ) arg10 fullShare d))
/-- The staged decoded scores, at given contents. -/
abbrev decodedAt : sProp 𝕄 :=
  iprop(owns (c : Thread nD τ) arg8 fullShare d5 ∗ owns (c : Thread nD τ) arg9 fullShare d6 ∗ owns (c : Thread nD τ) arg10 fullShare d7)

omit [FloatOps F] in
/-- A whole load of a staged vector at its contents reads them. -/
theorem weights_read : View.readAt (Elt F) arg2.view (Rect.unit (s := S1x128) ![0, 0] S1x128.size inb_S1x128_S1x128_0_0).toLoadRect (harg2.unread x0) = x0 :=
  (View.readAt_full _ _ _).trans (harg2.read_unread _)
omit [FloatOps F] in
/-- The same for the bias. -/
theorem bias_read : View.readAt (Elt F) arg3.view (Rect.unit (s := S1x1) ![0, 0] S1x1.size inb_S1x1_S1x1_0_0).toLoadRect (harg3.unread x1) = x1 :=
  (View.readAt_full _ _ _).trans (harg3.read_unread _)
omit [FloatOps F] in
/-- The same for the scores. -/
theorem scores_read : View.readAt (Elt F) arg4.view (Rect.unit (s := S1x256x256) ![0, 0, 0] S1x256x256.size inb_S1x256x256_S1x256x256_0_0_0).toLoadRect (harg4.unread x2) = x2 :=
  (View.readAt_full _ _ _).trans (harg4.read_unread _)

set_option maxHeartbeats 2000000 in
/-- A middle point: the controls are stored, the decoded scores stay, the block five ahead is started. -/
theorem body_mid (hc0 : ¬atFirst (grid0.coords t)) (hc1 : hasAhead (grid0.coords t)) (hc2 : ¬atBatch (grid0.coords t))
    (W : Waits sig Unit) (K : PUnit → sProp 𝕄) :
    iprop(inputs c arg2 arg3 arg4 x0 x1 x2 ∗ controlsAny c arg6 arg7 ∗ decodedAt c arg8 arg9 arg10 d5 d6 d7
        ∗ flying c fh (Ring.sl 6 t.val) (Ring.bk 64 t.val) ∗ resting c fh (Ring.sl 6 (t.val + 5)) ∗ owes (c : Thread nD τ) 0 W
        ∗ (iprop(inputs c arg2 arg3 arg4 x0 x1 x2 ∗ controlsDone c t arg6 arg7 x0 x1 fh ∗ decodedAt c arg8 arg9 arg10 d5 d6 d7
            ∗ flying c fh (Ring.sl 6 (t.val + 5)) (Ring.bk 64 (t.val + 5)) ∗ resting c fh (Ring.sl 6 t.val) ∗ (∃ W', owes (c : Thread nD τ) 0 W')) -∗ K ⟨⟩))
      ⊢ wp frame (wpE (defs₀ (F := F)) Variants.none c none) Set.univ (bodyOn t arg2 harg2 arg3 harg3 arg4 harg4 arg6 harg6 arg7 harg7 arg8 harg8 arg9 harg9 arg10 harg10) K := by
  haveI : Fact (¬atFirst (grid0.coords t)) := ⟨hc0⟩
  haveI : Fact (hasAhead (grid0.coords t)) := ⟨hc1⟩
  haveI : Fact (¬atBatch (grid0.coords t)) := ⟨hc2⟩
  unfold bodyOn
  simp only [cc0__body_eq_skeleton]; unfold cc0__body_skel
  simp only [k0_part1_eq_skeleton, k0_part3_eq_skeleton, k0_part4_eq_skeleton, k0_part5_eq_skeleton, k0_part6_eq_skeleton, k0_part2_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold inputs controlsAny controlsDone decodedAt owns flying  resting
  iintro ⟨⟨⟨%f0, %hf0, H0⟩, ⟨%f1, %hf1, H1⟩, ⟨%f2, %hf2, H2⟩⟩, ⟨⟨%d3, %f3, -, H3⟩, ⟨%d4, %f4, -, H4⟩⟩, ⟨⟨%f5, %hf5, H5⟩, ⟨%f6, %hf6, H6⟩, ⟨%f7, %hf7, H7⟩⟩, ⟨%g, Hf, Hu⟩, ⟨Hc5, ⟨%g5, Hs5⟩, Hw5⟩, HW, Hk⟩
  ihave Hp5 := (share_split c fh (Ring.sl 6 (t.val + 5)) (Ring.bk 64 (t.val + 5))).1 $$ Hw5
  icases Hp5 with ⟨Hh5, Hr5⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0 H1 H2]
  · isplitl [H0]
    · iexists _; isplitr; · ipureintro; exact harg2.read_unread _
      iexact H0
    isplitl [H1]
    · iexists _; isplitr; · ipureintro; exact harg3.read_unread _
      iexact H1
    iexists _; isplitr; · ipureintro; exact harg4.read_unread _
    iexact H2
  isplitl [H3 H4]
  · isplitl [H3]
    · iexists _; isplitr; swap; · iexact H3
      ipureintro
      have e := loads_c0 c t fh (slotM (Ring.sl 6 t.val)).view.junk x0 x1 _ (weights_read arg2 harg2 x0) _ (bias_read arg3 harg3 x1) _ rfl
      exact (View.read_writes_full _ _ _ _ _).trans e
    iexists _; isplitr; swap; · iexact H4
    ipureintro
    have e := loads_c1 c t fh (slotM (Ring.sl 6 t.val)).view.junk x0 x1 _ (weights_read arg2 harg2 x0) _ (bias_read arg3 harg3 x1) _ rfl
    exact (View.read_writes_full _ _ _ _ _).trans e
  isplitl [H5 H6 H7]
  · isplitl [H5]
    · iexists _; isplitr; swap; · iexact H5
      ipureintro; exact hf5
    isplitl [H6]
    · iexists _; isplitr; swap; · iexact H6
      ipureintro; exact hf6
    iexists _; isplitr; swap; · iexact H7
    ipureintro; exact hf7
  isplitl [Hc5 Hr5]
  · iexists _; isplitl [Hc5]; · iexact Hc5
    iexact Hr5
  isplitl [Hf Hf_dst Hf_src Hu]
  · isplitl [Hf]; · iexact Hf
    isplitl [Hf_dst]; · iexists _; iexact Hf_dst
    iapply (share_split c fh (Ring.sl 6 t.val) (Ring.bk 64 t.val)).2; isplitl [Hf_src]; · iexact Hf_src
    iexact Hu
  iexists _; iexact HW

set_option maxHeartbeats 2000000 in
/-- A point with no block ahead: the controls are stored, nothing is started. -/
theorem body_last (hc0 : ¬atFirst (grid0.coords t)) (hc1 : ¬hasAhead (grid0.coords t)) (hc2 : ¬atBatch (grid0.coords t))
    (W : Waits sig Unit) (K : PUnit → sProp 𝕄) :
    iprop(inputs c arg2 arg3 arg4 x0 x1 x2 ∗ controlsAny c arg6 arg7 ∗ decodedAt c arg8 arg9 arg10 d5 d6 d7
        ∗ flying c fh (Ring.sl 6 t.val) (Ring.bk 64 t.val) ∗ owes (c : Thread nD τ) 0 W
        ∗ (iprop(inputs c arg2 arg3 arg4 x0 x1 x2 ∗ controlsDone c t arg6 arg7 x0 x1 fh ∗ decodedAt c arg8 arg9 arg10 d5 d6 d7
            ∗ resting c fh (Ring.sl 6 t.val) ∗ (∃ W', owes (c : Thread nD τ) 0 W')) -∗ K ⟨⟩))
      ⊢ wp frame (wpE (defs₀ (F := F)) Variants.none c none) Set.univ (bodyOn t arg2 harg2 arg3 harg3 arg4 harg4 arg6 harg6 arg7 harg7 arg8 harg8 arg9 harg9 arg10 harg10) K := by
  haveI : Fact (¬atFirst (grid0.coords t)) := ⟨hc0⟩
  haveI : Fact (¬hasAhead (grid0.coords t)) := ⟨hc1⟩
  haveI : Fact (¬atBatch (grid0.coords t)) := ⟨hc2⟩
  unfold bodyOn
  simp only [cc0__body_eq_skeleton]; unfold cc0__body_skel
  simp only [k0_part1_eq_skeleton, k0_part3_eq_skeleton, k0_part4_eq_skeleton, k0_part5_eq_skeleton, k0_part6_eq_skeleton, k0_part2_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold inputs controlsAny controlsDone decodedAt owns flying  resting
  iintro ⟨⟨⟨%f0, %hf0, H0⟩, ⟨%f1, %hf1, H1⟩, ⟨%f2, %hf2, H2⟩⟩, ⟨⟨%d3, %f3, -, H3⟩, ⟨%d4, %f4, -, H4⟩⟩, ⟨⟨%f5, %hf5, H5⟩, ⟨%f6, %hf6, H6⟩, ⟨%f7, %hf7, H7⟩⟩, ⟨%g, Hf, Hu⟩, HW, Hk⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0 H1 H2]
  · isplitl [H0]
    · iexists _; isplitr; · ipureintro; exact harg2.read_unread _
      iexact H0
    isplitl [H1]
    · iexists _; isplitr; · ipureintro; exact harg3.read_unread _
      iexact H1
    iexists _; isplitr; · ipureintro; exact harg4.read_unread _
    iexact H2
  isplitl [H3 H4]
  · isplitl [H3]
    · iexists _; isplitr; swap; · iexact H3
      ipureintro
      have e := loads_c0 c t fh (slotM (Ring.sl 6 t.val)).view.junk x0 x1 _ (weights_read arg2 harg2 x0) _ (bias_read arg3 harg3 x1) _ rfl
      exact (View.read_writes_full _ _ _ _ _).trans e
    iexists _; isplitr; swap; · iexact H4
    ipureintro
    have e := loads_c1 c t fh (slotM (Ring.sl 6 t.val)).view.junk x0 x1 _ (weights_read arg2 harg2 x0) _ (bias_read arg3 harg3 x1) _ rfl
    exact (View.read_writes_full _ _ _ _ _).trans e
  isplitl [H5 H6 H7]
  · isplitl [H5]
    · iexists _; isplitr; swap; · iexact H5
      ipureintro; exact hf5
    isplitl [H6]
    · iexists _; isplitr; swap; · iexact H6
      ipureintro; exact hf6
    iexists _; isplitr; swap; · iexact H7
    ipureintro; exact hf7
  isplitl [Hf Hf_dst Hf_src Hu]
  · isplitl [Hf]; · iexact Hf
    isplitl [Hf_dst]; · iexists _; iexact Hf_dst
    iapply (share_split c fh (Ring.sl 6 t.val) (Ring.bk 64 t.val)).2; isplitl [Hf_src]; · iexact Hf_src
    iexact Hu
  iexists _; iexact HW

set_option maxHeartbeats 2000000 in
/-- The first point of a later batch entry: the scores are decoded as well. -/
theorem body_batch (hc0 : ¬atFirst (grid0.coords t)) (hc1 : hasAhead (grid0.coords t)) (hc2 : atBatch (grid0.coords t))
    (W : Waits sig Unit) (K : PUnit → sProp 𝕄) :
    iprop(inputs c arg2 arg3 arg4 x0 x1 x2 ∗ controlsAny c arg6 arg7 ∗ decodedAny c arg8 arg9 arg10
        ∗ flying c fh (Ring.sl 6 t.val) (Ring.bk 64 t.val) ∗ resting c fh (Ring.sl 6 (t.val + 5)) ∗ owes (c : Thread nD τ) 0 W
        ∗ (iprop(inputs c arg2 arg3 arg4 x0 x1 x2 ∗ controlsDone c t arg6 arg7 x0 x1 fh ∗ decodedAt c arg8 arg9 arg10 (gammaOf x2) (readOf x2) (writeOf x2)
            ∗ flying c fh (Ring.sl 6 (t.val + 5)) (Ring.bk 64 (t.val + 5)) ∗ resting c fh (Ring.sl 6 t.val) ∗ (∃ W', owes (c : Thread nD τ) 0 W')) -∗ K ⟨⟩))
      ⊢ wp frame (wpE (defs₀ (F := F)) Variants.none c none) Set.univ (bodyOn t arg2 harg2 arg3 harg3 arg4 harg4 arg6 harg6 arg7 harg7 arg8 harg8 arg9 harg9 arg10 harg10) K := by
  haveI : Fact (¬atFirst (grid0.coords t)) := ⟨hc0⟩
  haveI : Fact (hasAhead (grid0.coords t)) := ⟨hc1⟩
  haveI : Fact (atBatch (grid0.coords t)) := ⟨hc2⟩
  unfold bodyOn
  simp only [cc0__body_eq_skeleton]; unfold cc0__body_skel
  simp only [k0_part1_eq_skeleton, k0_part3_eq_skeleton, k0_part4_eq_skeleton, k0_part5_eq_skeleton, k0_part6_eq_skeleton, k0_part2_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold inputs controlsAny controlsDone decodedAny decodedAt owns flying  resting
  iintro ⟨⟨⟨%f0, %hf0, H0⟩, ⟨%f1, %hf1, H1⟩, ⟨%f2, %hf2, H2⟩⟩, ⟨⟨%d3, %f3, -, H3⟩, ⟨%d4, %f4, -, H4⟩⟩, ⟨⟨%d5, %f5, -, H5⟩, ⟨%d6, %f6, -, H6⟩, ⟨%d7, %f7, -, H7⟩⟩, ⟨%g, Hf, Hu⟩, ⟨Hc5, ⟨%g5, Hs5⟩, Hw5⟩, HW, Hk⟩
  ihave Hp5 := (share_split c fh (Ring.sl 6 (t.val + 5)) (Ring.bk 64 (t.val + 5))).1 $$ Hw5
  icases Hp5 with ⟨Hh5, Hr5⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0 H1 H2]
  · isplitl [H0]
    · iexists _; isplitr; · ipureintro; exact harg2.read_unread _
      iexact H0
    isplitl [H1]
    · iexists _; isplitr; · ipureintro; exact harg3.read_unread _
      iexact H1
    iexists _; isplitr; · ipureintro; exact harg4.read_unread _
    iexact H2
  isplitl [H3 H4]
  · isplitl [H3]
    · iexists _; isplitr; swap; · iexact H3
      ipureintro
      have e := loads_c0 c t fh (slotM (Ring.sl 6 t.val)).view.junk x0 x1 _ (weights_read arg2 harg2 x0) _ (bias_read arg3 harg3 x1) _ rfl
      exact (View.read_writes_full _ _ _ _ _).trans e
    iexists _; isplitr; swap; · iexact H4
    ipureintro
    have e := loads_c1 c t fh (slotM (Ring.sl 6 t.val)).view.junk x0 x1 _ (weights_read arg2 harg2 x0) _ (bias_read arg3 harg3 x1) _ rfl
    exact (View.read_writes_full _ _ _ _ _).trans e
  isplitl [H5 H6 H7]
  · isplitl [H5]
    · iexists _; isplitr; swap; · iexact H5
      ipureintro
      exact (View.read_writes_full _ _ _ _ _).trans (congrArg gammaOf (scores_read arg4 harg4 x2))
    isplitl [H6]
    · iexists _; isplitr; swap; · iexact H6
      ipureintro
      exact (View.read_writes_full _ _ _ _ _).trans (congrArg readOf (scores_read arg4 harg4 x2))
    iexists _; isplitr; swap; · iexact H7
    ipureintro
    exact (View.read_writes_full _ _ _ _ _).trans (congrArg writeOf (scores_read arg4 harg4 x2))
  isplitl [Hc5 Hr5]
  · iexists _; isplitl [Hc5]; · iexact Hc5
    iexact Hr5
  isplitl [Hf Hf_dst Hf_src Hu]
  · isplitl [Hf]; · iexact Hf
    isplitl [Hf_dst]; · iexists _; iexact Hf_dst
    iapply (share_split c fh (Ring.sl 6 t.val) (Ring.bk 64 t.val)).2; isplitl [Hf_src]; · iexact Hf_src
    iexact Hu
  iexists _; iexact HW

set_option maxHeartbeats 2000000 in
/-- The first point: five copies are started before the one five ahead; the scores are decoded as well. -/
theorem body_first (hc0 : atFirst (grid0.coords t)) (hc1 : hasAhead (grid0.coords t)) (hc2 : atBatch (grid0.coords t))
    (W : Waits sig Unit) (K : PUnit → sProp 𝕄) :
    iprop(inputs c arg2 arg3 arg4 x0 x1 x2 ∗ controlsAny c arg6 arg7 ∗ decodedAny c arg8 arg9 arg10
        ∗ resting c fh (Ring.sl 6 t.val) ∗ resting c fh (Ring.sl 6 (t.val + 1)) ∗ resting c fh (Ring.sl 6 (t.val + 2)) ∗ resting c fh (Ring.sl 6 (t.val + 3)) ∗ resting c fh (Ring.sl 6 (t.val + 4)) ∗ resting c fh (Ring.sl 6 (t.val + 5)) ∗ owes (c : Thread nD τ) 0 W
        ∗ (iprop(inputs c arg2 arg3 arg4 x0 x1 x2 ∗ controlsDone c t arg6 arg7 x0 x1 fh ∗ decodedAt c arg8 arg9 arg10 (gammaOf x2) (readOf x2) (writeOf x2)
            ∗ flying c fh (Ring.sl 6 (t.val + 1)) (Ring.bk 64 (t.val + 1)) ∗ flying c fh (Ring.sl 6 (t.val + 2)) (Ring.bk 64 (t.val + 2)) ∗ flying c fh (Ring.sl 6 (t.val + 3)) (Ring.bk 64 (t.val + 3)) ∗ flying c fh (Ring.sl 6 (t.val + 4)) (Ring.bk 64 (t.val + 4)) ∗ flying c fh (Ring.sl 6 (t.val + 5)) (Ring.bk 64 (t.val + 5)) ∗ resting c fh (Ring.sl 6 t.val) ∗ (∃ W', owes (c : Thread nD τ) 0 W')) -∗ K ⟨⟩))
      ⊢ wp frame (wpE (defs₀ (F := F)) Variants.none c none) Set.univ (bodyOn t arg2 harg2 arg3 harg3 arg4 harg4 arg6 harg6 arg7 harg7 arg8 harg8 arg9 harg9 arg10 harg10) K := by
  haveI : Fact (atFirst (grid0.coords t)) := ⟨hc0⟩
  haveI : Fact (hasAhead (grid0.coords t)) := ⟨hc1⟩
  haveI : Fact (atBatch (grid0.coords t)) := ⟨hc2⟩
  unfold bodyOn
  simp only [cc0__body_eq_skeleton]; unfold cc0__body_skel
  simp only [k0_part1_eq_skeleton, k0_part3_eq_skeleton, k0_part4_eq_skeleton, k0_part5_eq_skeleton, k0_part6_eq_skeleton, k0_part2_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold inputs controlsAny controlsDone decodedAny decodedAt owns flying  resting
  iintro ⟨⟨⟨%f0, %hf0, H0⟩, ⟨%f1, %hf1, H1⟩, ⟨%f2, %hf2, H2⟩⟩, ⟨⟨%d3, %f3, -, H3⟩, ⟨%d4, %f4, -, H4⟩⟩, ⟨⟨%d5, %f5, -, H5⟩, ⟨%d6, %f6, -, H6⟩, ⟨%d7, %f7, -, H7⟩⟩, ⟨Hc0, ⟨%g0, Hs0⟩, Hw0⟩, ⟨Hc1, ⟨%g1, Hs1⟩, Hw1⟩, ⟨Hc2, ⟨%g2, Hs2⟩, Hw2⟩, ⟨Hc3, ⟨%g3, Hs3⟩, Hw3⟩, ⟨Hc4, ⟨%g4, Hs4⟩, Hw4⟩, ⟨Hc5, ⟨%g5, Hs5⟩, Hw5⟩, HW, Hk⟩
  ihave Hp0 := (share_split c fh (Ring.sl 6 t.val) (Ring.bk 64 t.val)).1 $$ Hw0
  icases Hp0 with ⟨Hh0, Hr0⟩
  ihave Hp1 := (share_split c fh (Ring.sl 6 (t.val + 1)) (Ring.bk 64 (t.val + 1))).1 $$ Hw1
  icases Hp1 with ⟨Hh1, Hr1⟩
  ihave Hp2 := (share_split c fh (Ring.sl 6 (t.val + 2)) (Ring.bk 64 (t.val + 2))).1 $$ Hw2
  icases Hp2 with ⟨Hh2, Hr2⟩
  ihave Hp3 := (share_split c fh (Ring.sl 6 (t.val + 3)) (Ring.bk 64 (t.val + 3))).1 $$ Hw3
  icases Hp3 with ⟨Hh3, Hr3⟩
  ihave Hp4 := (share_split c fh (Ring.sl 6 (t.val + 4)) (Ring.bk 64 (t.val + 4))).1 $$ Hw4
  icases Hp4 with ⟨Hh4, Hr4⟩
  ihave Hp5 := (share_split c fh (Ring.sl 6 (t.val + 5)) (Ring.bk 64 (t.val + 5))).1 $$ Hw5
  icases Hp5 with ⟨Hh5, Hr5⟩
  obtain rfl := harg2.eq_unread hf0; obtain rfl := harg3.eq_unread hf1; obtain rfl := harg4.eq_unread hf2
  sl_exec (disch := first | sl_exact hc0 | sl_exact hc1 | sl_exact hc2)
  sl_step
  iapply Hk
  isplitl [H0 H1 H2]
  · isplitl [H0]
    · iexists _; isplitr; · ipureintro; exact harg2.read_unread _
      iexact H0
    isplitl [H1]
    · iexists _; isplitr; · ipureintro; exact harg3.read_unread _
      iexact H1
    iexists _; isplitr; · ipureintro; exact harg4.read_unread _
    iexact H2
  isplitl [H3 H4]
  · isplitl [H3]
    · iexists _; isplitr; swap; · iexact H3
      ipureintro
      have e := loads_c0 c t fh (slotM (Ring.sl 6 t.val)).view.junk x0 x1 _ (weights_read arg2 harg2 x0) _ (bias_read arg3 harg3 x1) _ rfl
      exact (View.read_writes_full _ _ _ _ _).trans e
    iexists _; isplitr; swap; · iexact H4
    ipureintro
    have e := loads_c1 c t fh (slotM (Ring.sl 6 t.val)).view.junk x0 x1 _ (weights_read arg2 harg2 x0) _ (bias_read arg3 harg3 x1) _ rfl
    exact (View.read_writes_full _ _ _ _ _).trans e
  isplitl [H5 H6 H7]
  · isplitl [H5]
    · iexists _; isplitr; swap; · iexact H5
      ipureintro
      exact (View.read_writes_full _ _ _ _ _).trans (congrArg gammaOf (scores_read arg4 harg4 x2))
    isplitl [H6]
    · iexists _; isplitr; swap; · iexact H6
      ipureintro
      exact (View.read_writes_full _ _ _ _ _).trans (congrArg readOf (scores_read arg4 harg4 x2))
    iexists _; isplitr; swap; · iexact H7
    ipureintro
    exact (View.read_writes_full _ _ _ _ _).trans (congrArg writeOf (scores_read arg4 harg4 x2))
  isplitl [Hc1 Hr1]
  · iexists _; isplitl [Hc1]; · iexact Hc1
    iexact Hr1
  isplitl [Hc2 Hr2]
  · iexists _; isplitl [Hc2]; · iexact Hc2
    iexact Hr2
  isplitl [Hc3 Hr3]
  · iexists _; isplitl [Hc3]; · iexact Hc3
    iexact Hr3
  isplitl [Hc4 Hr4]
  · iexists _; isplitl [Hc4]; · iexact Hc4
    iexact Hr4
  isplitl [Hc5 Hr5]
  · iexists _; isplitl [Hc5]; · iexact Hc5
    iexact Hr5
  isplitl [Hc0 Hs0 Hh0 Hr0]
  · isplitl [Hc0]; · iexact Hc0
    isplitl [Hs0]; · iexists _; iexact Hs0
    iapply (share_split c fh (Ring.sl 6 t.val) (Ring.bk 64 t.val)).2; isplitl [Hh0]; · iexact Hh0
    iexact Hr0
  iexists _; iexact HW

end Body

end Cert.KernelIdeal.Own

end
-- ==== Proof.K.InOut.lean ====
module

public import proofs.«01_k».proof.Proof.K.Ring

@[expose] public section

set_option maxRecDepth 16384

noncomputable section

/-!
The ring at the launch and from point to point: what the launch holds is the ring before its first point, the ring after the
last point is what the launch takes back, and one point's slots go in and come out.
-/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## One point's slots -/

section Steps
variable (c : Dev nD) (W : BufOf (F := F) c obs)

/-- What a point leaves alone: the four copies under way beyond its own. -/
def beyond (k : ℕ) : sProp 𝕄 := iprop(stage c W (k + 1) ∗ stage c W (k + 2) ∗ stage c W (k + 3) ∗ stage c W (k + 4))

omit [FloatOps F] in
/-- Before the first point every slot rests. -/
theorem first_in (k : ℕ) (h : k = 0) : ringInv c W k ⊢ iprop(resting c W (Ring.sl 6 k) ∗ resting c W (Ring.sl 6 (k + 1)) ∗ resting c W (Ring.sl 6 (k + 2))
    ∗ resting c W (Ring.sl 6 (k + 3)) ∗ resting c W (Ring.sl 6 (k + 4)) ∗ resting c W (Ring.sl 6 (k + 5))) := by
  subst h; unfold ringInv; rw [if_pos rfl]; exact .rfl
omit [FloatOps F] in
/-- A started step's stage is its flight. -/
theorem stage_flying (k : ℕ) (h : k < 64) : stage c W k = flying c W (Ring.sl 6 k) (Ring.bk 64 k) := if_pos h
omit [FloatOps F] in
/-- A step past the last block has its slot resting. -/
theorem stage_resting (k : ℕ) (h : ¬k < 64) : stage c W k = resting c W (Ring.sl 6 k) := if_neg h
omit [FloatOps F] in
/-- Six steps on, the same slot. -/
theorem resting_around (k : ℕ) : resting c W (Ring.sl 6 (k + 1 + 5)) = resting (F := F) c W (Ring.sl 6 k) := congrArg _ (Ring.sl_add 6 k)
omit [FloatOps F] in
/-- After the first point five copies are under way. -/
theorem first_out (k : ℕ) (h : k = 0) : iprop(flying c W (Ring.sl 6 (k + 1)) (Ring.bk 64 (k + 1)) ∗ flying c W (Ring.sl 6 (k + 2)) (Ring.bk 64 (k + 2))
    ∗ flying c W (Ring.sl 6 (k + 3)) (Ring.bk 64 (k + 3)) ∗ flying c W (Ring.sl 6 (k + 4)) (Ring.bk 64 (k + 4)) ∗ flying c W (Ring.sl 6 (k + 5)) (Ring.bk 64 (k + 5))
    ∗ resting c W (Ring.sl 6 k)) ⊢ ringInv c W (k + 1) := by
  unfold ringInv; rw [if_neg (by omega), resting_around]
  subst h; simp only [stage_flying c W _ (show 0 + 1 < 64 by decide), stage_flying c W _ (show 0 + 1 + 1 < 64 by decide), stage_flying c W _ (show 0 + 1 + 2 < 64 by decide),
    stage_flying c W _ (show 0 + 1 + 3 < 64 by decide), stage_flying c W _ (show 0 + 1 + 4 < 64 by decide)]
  exact .rfl
omit [FloatOps F] in
/-- Before a later point: its own copy, those beyond, and the resting slot. -/
theorem later_in (k : ℕ) (h0 : k ≠ 0) (h : k < 64) :
    ringInv c W k ⊢ iprop(flying c W (Ring.sl 6 k) (Ring.bk 64 k) ∗ resting c W (Ring.sl 6 (k + 5)) ∗ beyond c W k) := by
  unfold ringInv beyond; rw [if_neg h0, stage_flying c W k h]
  iintro ⟨H0, H1, H2, H3, H4, H5⟩
  isplitl [H0]; · iexact H0
  isplitl [H5]; · iexact H5
  isplitl [H1]; · iexact H1
  isplitl [H2]; · iexact H2
  isplitl [H3]; · iexact H3
  iexact H4
omit [FloatOps F] in
/-- After a later point: its own slot rests and the stage five on is reached. -/
theorem later_out (k : ℕ) : iprop(stage c W (k + 5) ∗ resting c W (Ring.sl 6 k) ∗ beyond c W k) ⊢ ringInv c W (k + 1) := by
  unfold ringInv beyond; rw [if_neg (Nat.succ_ne_zero k), resting_around]
  iintro ⟨H5, H0, H1, H2, H3, H4⟩
  isplitl [H1]; · iexact H1
  isplitl [H2]; · iexact H2
  isplitl [H3]; · iexact H3
  isplitl [H4]; · iexact H4
  isplitl [H5]; · iexact H5
  iexact H0

end Steps

/-! ## The launch's pieces -/

/-- The array the body copies from by itself. -/
def lentRefs : Finset (Ref sig .tc) := {main_arg0}
/-- No window stages it. -/
theorem lentRefs_sub : lentRefs ⊆ Pipeline.restRefs sig spec0 := by decide

section Slots
variable (c : Dev nD)

/-- The elements of slot `s` in the scratch. -/
abbrev slotSet (s : Fin 6) : Finset S6x32x256x128.Idx := (Rect.unit (s := S6x32x256x128) ![s.val, 0, 0, 0] S1x32x256x128.size (slot_inb s)).set
omit [FloatOps F] in
/-- A slot held is its elements of the scratch held. -/
theorem slotAt_eq (s : Fin 6) (f : BufOf (F := F) c (slotM s)) :
    slotAt (F := F) c s f = (((c : Thread nD τ).loc cc0_scratch0) ↦[slotSet s]{fullShare} f : sProp 𝕄) := by
  have e : (slotM s).view.set = slotSet s := by
    simp only [slotM, Memref.view_squeeze, View.set_reshape]; exact View.set_slice_whole _ _
  unfold slotAt; rw [e]; rfl
/-- Different slots share no element, -/
theorem slotSet_disjoint (s s' : Fin 6) (h : s ≠ s') : Disjoint (slotSet s) (slotSet s') :=
  Ring.lead_disjoint (s := S6x32x256x128) (0 : Fin 4) 1 (fun s : Fin 6 => (![s.val, 0, 0, 0] : Fin 4 → Nat)) S1x32x256x128.size slot_inb (fun s => by simp) rfl s s' h
/-- and together they are the scratch. -/
theorem slotSet_cover : Finset.univ.biUnion slotSet = Finset.univ :=
  Ring.lead_cover (s := S6x32x256x128) (0 : Fin 4) 1 (fun s : Fin 6 => (![s.val, 0, 0, 0] : Fin 4 → Nat)) S1x32x256x128.size slot_inb (fun s => by simp)
    (fun s a ha => by fin_cases a <;> first | exact absurd rfl ha | rfl) rfl (fun a ha => by fin_cases a <;> first | exact absurd rfl ha | rfl) rfl

/-- The six slots, each at anything. -/
abbrev slotsAny : sProp 𝕄 := iprop((∃ f, slotAt (F := F) c 0 f) ∗ (∃ f, slotAt (F := F) c 1 f) ∗ (∃ f, slotAt (F := F) c 2 f)
    ∗ (∃ f, slotAt (F := F) c 3 f) ∗ (∃ f, slotAt (F := F) c 4 f) ∗ ∃ f, slotAt (F := F) c 5 f)
omit [FloatOps F] in
/-- The scratch at anything is its slots at anything, -/
theorem scratch_split : iprop(∃ f, ((c : Thread nD τ).loc cc0_scratch0) ↦{fullShare} f) ⊢ slotsAny (F := F) c :=
  Ring.slots_split_n (U := Pipeline.UD sig nD τ) (ℓ := (c : Thread nD τ).loc cc0_scratch0) (q := fullShare) slotSet slotSet_disjoint slotSet_cover
    [0, 1, 2, 3, 4, 5] (by decide) (by decide) (fun s => slotAt c s) (slotAt_eq c)
omit [FloatOps F] in
/-- and back. -/
theorem scratch_join : slotsAny (F := F) c ⊢ iprop(∃ f, ((c : Thread nD τ).loc cc0_scratch0) ↦{fullShare} f) :=
  Ring.slots_join_n (U := Pipeline.UD sig nD τ) (ℓ := (c : Thread nD τ).loc cc0_scratch0) (q := fullShare) slotSet slotSet_disjoint slotSet_cover
    [0, 1, 2, 3, 4, 5] (by decide) (by decide) (fun s => slotAt c s) (slotAt_eq c)

variable (W : BufOf (F := F) c obs)

/-- All the observations held. -/
abbrev allObs : sProp 𝕄 := ((c : Thread nD τ).loc main_arg0) ↦{fullShare} W
/-- The six shares of the observations. -/
abbrev shares : sProp 𝕄 := iprop(share c W 0 ∗ share c W 1 ∗ share c W 2 ∗ share c W 3 ∗ share c W 4 ∗ share c W 5)
omit [FloatOps F] in
/-- A held share of the observations is its two halves. -/
theorem halves (q : PosShare TreeShare) : (((c : Thread nD τ).loc main_arg0) ↦{q} W : sProp 𝕄)
    ⊣⊢ iprop((((c : Thread nD τ).loc main_arg0) ↦{q.left} W) ∗ (((c : Thread nD τ).loc main_arg0) ↦{q.right} W)) :=
  pointsTo_share (PosShare.mem_left_op_right q)
omit [FloatOps F] in
/-- The observations held are the six shares. -/
theorem obs_shares : allObs c W ⊣⊢ shares c W := by
  have h := halves (F := F) c W
  unfold allObs
  exact (h fullShare).trans (sep_congr_right ((h _).trans (sep_congr_right ((h _).trans (sep_congr_right ((h _).trans (sep_congr_right (h _))))))))

/-- The six cells at zero. -/
abbrev cellsZero : sProp 𝕄 := iprop(semVal ((c : Thread nD τ), cellR 0) 0 ∗ semVal ((c : Thread nD τ), cellR 1) 0 ∗ semVal ((c : Thread nD τ), cellR 2) 0
    ∗ semVal ((c : Thread nD τ), cellR 3) 0 ∗ semVal ((c : Thread nD τ), cellR 4) 0 ∗ semVal ((c : Thread nD τ), cellR 5) 0)
/-- The launch's own cells at zero, listed. -/
theorem ownSems_eq : (Pipeline.ownSems0 (Ix := Unit) (Name := ℕ) (U := Pipeline.UD sig nD τ) (Lvl := ℕ) (Val := Elt F) (τ := τ) cellR c : sProp 𝕄) = cellsZero c := by
  rw [Pipeline.ownSems0_eq_of_list c cellR [0, 1, 2, 3, 4, 5] (by decide) (by decide)]; rfl

omit [FloatOps F] in
/-- Cells, slots and shares are the slots resting. -/
theorem rest_all : iprop(cellsZero c ∗ slotsAny c ∗ shares c W)
    ⊣⊢ iprop(resting c W 0 ∗ resting c W 1 ∗ resting c W 2 ∗ resting c W 3 ∗ resting c W 4 ∗ resting c W 5) := by
  refine ⟨?_, ?_⟩
  · iintro ⟨⟨C0, C1, C2, C3, C4, C5⟩, ⟨S0, S1, S2, S3, S4, S5⟩, ⟨W0, W1, W2, W3, W4, W5⟩⟩
    unfold resting
    isplitl [C0 S0 W0]; · isplitl [C0]; · iexact C0
                          isplitl [S0]; · iexact S0
                          iexact W0
    isplitl [C1 S1 W1]; · isplitl [C1]; · iexact C1
                          isplitl [S1]; · iexact S1
                          iexact W1
    isplitl [C2 S2 W2]; · isplitl [C2]; · iexact C2
                          isplitl [S2]; · iexact S2
                          iexact W2
    isplitl [C3 S3 W3]; · isplitl [C3]; · iexact C3
                          isplitl [S3]; · iexact S3
                          iexact W3
    isplitl [C4 S4 W4]; · isplitl [C4]; · iexact C4
                          isplitl [S4]; · iexact S4
                          iexact W4
    isplitl [C5]; · iexact C5
    isplitl [S5]; · iexact S5
    iexact W5
  · unfold resting
    iintro ⟨⟨C0, S0, W0⟩, ⟨C1, S1, W1⟩, ⟨C2, S2, W2⟩, ⟨C3, S3, W3⟩, ⟨C4, S4, W4⟩, ⟨C5, S5, W5⟩⟩
    isplitl [C0 C1 C2 C3 C4 C5]
    · isplitl [C0]; · iexact C0
      isplitl [C1]; · iexact C1
      isplitl [C2]; · iexact C2
      isplitl [C3]; · iexact C3
      isplitl [C4]; · iexact C4
      iexact C5
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [W0]; · iexact W0
    isplitl [W1]; · iexact W1
    isplitl [W2]; · iexact W2
    isplitl [W3]; · iexact W3
    isplitl [W4]; · iexact W4
    iexact W5

end Slots

section Launch
variable (m : (ℓ : Loc nD τ sig) → Buf (Elt F) ℓ) (c : Dev nD)

/-- The launch's pieces, one by one. -/
theorem pieces_eq : (Pipeline.ΦD cellR spec0 lentRefs (V m) c : sProp 𝕄)
    = iprop((∃ f, ((c : Thread nD τ).loc cc0_scratch0) ↦{fullShare} f) ∗ (∃ r, prngReg c r) ∗ cellsZero c ∗ allObs c (V m c main_arg0)) := by
  have e : (bigSep lentRefs (fun b => ((c : Thread nD τ).loc b) ↦{fullShare} V m c b) : sProp 𝕄) = allObs c (V m c main_arg0) := by
    rw [BI.bigSep_eq_bigSepL_of_eq [main_arg0] (by decide) (by decide)]; rfl
  rw [Pipeline.ΦD_eq, scopedRest0_eq, ownSems_eq, e]
/-- The launch's pieces are the ring before its first point; -/
theorem ring_enter : (Pipeline.ΦD cellR spec0 lentRefs (V m) c : sProp 𝕄) ⊢ iprop(ringInv c (V m c main_arg0) 0 ∗ ∃ r, prngReg c r) := by
  rw [pieces_eq]; unfold ringInv; rw [if_pos rfl]
  iintro ⟨HS, Hp, Hc, HW⟩
  ihave HS' := (scratch_split (F := F) c) $$ HS
  ihave HW' := (obs_shares (F := F) c (V m c main_arg0)).1 $$ HW
  isplitr [Hp]
  · iapply (rest_all c (V m c main_arg0)).1
    isplitl [Hc]; · iexact Hc
    isplitl [HS']; · iexact HS'
    iexact HW'
  iexact Hp
/-- the ring after its last point is those pieces again. -/
theorem ring_leave : iprop(ringInv c (V m c main_arg0) 64 ∗ ∃ r, prngReg c r) ⊢ (Pipeline.ΦD cellR spec0 lentRefs (V m) c : sProp 𝕄) := by
  rw [pieces_eq]; unfold ringInv; rw [if_neg (by decide)]
  simp only [stage_resting c (V m c main_arg0) 64 (by decide), stage_resting c (V m c main_arg0) (64 + 1) (by decide), stage_resting c (V m c main_arg0) (64 + 2) (by decide),
    stage_resting c (V m c main_arg0) (64 + 3) (by decide), stage_resting c (V m c main_arg0) (64 + 4) (by decide)]
  rw [show Ring.sl 6 64 = 4 from rfl, show Ring.sl 6 (64 + 1) = 5 from rfl, show Ring.sl 6 (64 + 2) = 0 from rfl, show Ring.sl 6 (64 + 3) = 1 from rfl,
    show Ring.sl 6 (64 + 4) = 2 from rfl, show Ring.sl 6 (64 + 5) = 3 from rfl]
  iintro ⟨⟨H4, H5, H0, H1, H2, H3⟩, Hp⟩
  ihave HR := (rest_all c (V m c main_arg0)).2 $$ [H0 H1 H2 H3 H4 H5]
  · isplitl [H0]; · iexact H0
    isplitl [H1]; · iexact H1
    isplitl [H2]; · iexact H2
    isplitl [H3]; · iexact H3
    isplitl [H4]; · iexact H4
    iexact H5
  icases HR with ⟨Hc, HS, HW⟩
  isplitl [HS]; · iapply (scratch_join (F := F) c); iexact HS
  isplitl [Hp]; · iexact Hp
  isplitl [Hc]; · iexact Hc
  iapply (obs_shares (F := F) c (V m c main_arg0)).2; iexact HW

end Launch

end Cert.KernelIdeal.Own

end
-- ==== Proof.K.Run.lean ====
module

public import proofs.«01_k».proof.Proof.K.Body
public import proofs.«01_k».proof.Proof.K.InOut
public import Idealize.ShloMosaic.Lib.Claim

@[expose] public section

set_option maxRecDepth 16384

noncomputable section

/-!
The run: what each window's buffer holds at each point, the body at any point, and the whole program.
-/

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The observations, as the region finds them. -/
abbrev obsIn (c : Dev nD) : BufOf (F := F) c obs := V m c main_arg0

/-- What the windows' buffers hold after each point, and the ring before it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => c0Of (iblk m c 0 t) (iblk m c 1 t) (obsRow (obsIn m c) (Ring.bk 64 t.val))
    | ⟨4, _⟩ => c1Of (iblk m c 0 t) (iblk m c 1 t) (obsRow (obsIn m c) (Ring.bk 64 t.val))
    | ⟨5, _⟩ => gammaOf (iblk m c 2 t)
    | ⟨6, _⟩ => readOf (iblk m c 2 t)
    | ⟨7, _⟩ => writeOf (iblk m c 2 t)
  Φ t := iprop(ringInv c (obsIn m c) t.val ∗ ∃ r, prngReg c r)
  q _ := fullShare
  owed _ := 0

/-- The arrays are as the region finds them. -/
theorem A_eq (c : Dev nD) (w : Fin cfg0.W) : (dats m 0 c).A w = V m c (Pipeline.arrRef spec0 w) := by
  dsimp only [dats]

/-! ## What a point finds -/

section Finds
variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = c0Of (iblk m c 0 t) (iblk m c 1 t) (obsRow (obsIn m c) (Ring.bk 64 t.val)) := by dsimp only [dats]
theorem after_4 : (dats m 0 c).after 4 t = c1Of (iblk m c 0 t) (iblk m c 1 t) (obsRow (obsIn m c) (Ring.bk 64 t.val)) := by dsimp only [dats]
theorem after_5 : (dats m 0 c).after 5 t = gammaOf (iblk m c 2 t) := by dsimp only [dats]
theorem after_6 : (dats m 0 c).after 6 t = readOf (iblk m c 2 t) := by dsimp only [dats]
theorem after_7 : (dats m 0 c).after 7 t = writeOf (iblk m c 2 t) := by dsimp only [dats]

/-- The weights' buffer holds them at every point; -/
theorem found_0 (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
/-- the bias's too, -/
theorem found_1 (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- and the scores' holds those of its batch entry. -/
theorem found_2 (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)

/-- The point before `t`. -/
abbrev prev : Fin cfg0.N := ⟨t.val - 1, Nat.lt_of_le_of_lt (Nat.sub_le _ _) t.isLt⟩
/-- Within a batch entry the scores' block stays. -/
theorem scores_stay (h : t.val % 8 ≠ 0) : iblk m c 2 (prev t) = iblk m c 2 t := by
  have hf : (cfg0.win 2).fetch t = false := Bool.eq_false_iff.mpr fun e => h ((fetch0_2 t).mp e)
  have d0 := iblk m c 2 t
  rw [← found_2 m c t d0, (dats m 0 c).before_unfetched_in 2 rfl t hf (fun _ => rfl), ← after_2 m c (prev t)]
  unfold Dat.kept
  exact (((Pipeline.fill_of_clip_none (cfg := cfg0) 2 _ (fun _ => rfl) d0 ((dats m 0 c).after 2 (prev t)) _)).trans (Window.fill_cut _ _ _)).symm

/-- Past the first point of a batch entry, an output stored there only still holds it, if what it stores stays. -/
theorem found_stays (w : Fin cfg0.W) (hw : (cfg0.win w).isOut = true) (hfl : ∀ t : Fin cfg0.N, (cfg0.win w).flush t = true ↔ t.val % 8 = 7)
    (hidle : ∀ t : Fin cfg0.N, cfg0.idle w (cfg0.grid.coords t) = true ↔ t.val % 8 ≠ 0) (hclip : ∀ (i : cfg0.grid.Coords) a, (cfg0.win w).clip i a = none)
    (hst : ∀ t : Fin cfg0.N, t.val % 8 ≠ 0 → (dats m 0 c).after w (prev t) = (dats m 0 c).after w t) (d) :
    ∀ n : ℕ, (hn : n < cfg0.N) → n % 8 ≠ 0 → (dats m 0 c).before w ⟨n, hn⟩ d = (dats m 0 c).after w ⟨n, hn⟩ := by
  intro n
  induction n with
  | zero => intro _ h; exact absurd rfl h
  | succ k ih =>
    intro hn h
    have hp : ¬(cfg0.win w).flush (prev ⟨k + 1, hn⟩) = true := fun e => by
      have := (hfl _).mp e
      simp only [prev, Nat.add_sub_cancel] at this; omega
    rw [(dats m 0 c).before_of_pos w ⟨k + 1, hn⟩ (Nat.succ_ne_zero k) ((cfg0.win w).fetch_out hw _), if_neg hp, ← hst ⟨k + 1, hn⟩ h]
    unfold Dat.left
    by_cases h0 : k % 8 = 0
    · have hi : cfg0.idle w (cfg0.grid.coords (prev ⟨k + 1, hn⟩)) = false :=
        Bool.eq_false_iff.mpr fun e => (hidle _).mp e h0
      rw [hi]
      show (dats m 0 c).kept w (prev ⟨k + 1, hn⟩) d = _
      unfold Dat.kept
      exact (Pipeline.fill_of_clip_none (cfg := cfg0) w _ (hclip _) d ((dats m 0 c).after w (prev ⟨k + 1, hn⟩)) _).trans (Window.fill_cut _ _ _)
    · have hi : cfg0.idle w (cfg0.grid.coords (prev ⟨k + 1, hn⟩)) = true := (hidle _).mpr h0
      rw [hi]
      exact ih (Nat.lt_of_succ_lt hn) h0

/-- A batch entry's outputs are idle but at its first point. -/
theorem idle_iff (w : Fin cfg0.W) (hw : ∀ i, cfg0.idle w i = !(k0_cond3 i == 1#1)) (t : Fin cfg0.N) : cfg0.idle w (cfg0.grid.coords t) = true ↔ t.val % 8 ≠ 0 := by
  rw [hw, ne_eq, ← not_iff_not.mpr (atBatch_iff t)]
  simp [atBatch]

theorem found_5 (h : t.val % 8 ≠ 0) (d) : (dats m 0 c).before 5 t d = gammaOf (iblk m c 2 t) :=
  (found_stays m c 5 rfl flush0_5 (idle_iff 5 fun _ => rfl) (fun _ _ => rfl) (fun t h => by rw [after_5, after_5, scores_stay m c t h]) d t.val t.isLt h).trans (after_5 m c t)
theorem found_6 (h : t.val % 8 ≠ 0) (d) : (dats m 0 c).before 6 t d = readOf (iblk m c 2 t) :=
  (found_stays m c 6 rfl flush0_6 (idle_iff 6 fun _ => rfl) (fun _ _ => rfl) (fun t h => by rw [after_6, after_6, scores_stay m c t h]) d t.val t.isLt h).trans (after_6 m c t)
theorem found_7 (h : t.val % 8 ≠ 0) (d) : (dats m 0 c).before 7 t d = writeOf (iblk m c 2 t) :=
  (found_stays m c 7 rfl flush0_7 (idle_iff 7 fun _ => rfl) (fun _ _ => rfl) (fun t h => by rw [after_7, after_7, scores_stay m c t h]) d t.val t.isLt h).trans (after_7 m c t)

/-- A buffer holding what the window's data say after the point is what the point must leave. -/
theorem leaves_after (w : Fin cfg0.W) (h : cfg0.idle w (cfg0.grid.coords t) = true → ∃ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  split
  · split
    · obtain ⟨d, e⟩ := h ‹_›
      iintro H; iexists d; rw [e]; iexact H
    · exact .rfl
  · exact .rfl

end Finds

/-! ## The body at any point -/

section Point
variable (c : Dev nD) (t : Fin cfg0.N)

/-- What the point finds of the three decoded outputs. -/
abbrev decodedFound : sProp 𝕄 :=
  iprop((∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- What it leaves of them. -/
abbrev decodedLeft : sProp 𝕄 :=
  decodedAt c (st0_5 t) (st0_6 t) (st0_7 t) (gammaOf (iblk m c 2 t)) (readOf (iblk m c 2 t)) (writeOf (iblk m c 2 t))
/-- What it finds of the windows. -/
abbrev windowsFound : sProp 𝕄 :=
  iprop(inputs c (st0_0 t) (st0_1 t) (st0_2 t) (iblk m c 0 t) (iblk m c 1 t) (iblk m c 2 t) ∗ controlsAny c (st0_3 t) (st0_4 t) ∗ decodedFound m c t)
/-- What it leaves of them. -/
abbrev windowsLeft : sProp 𝕄 :=
  iprop(inputs c (st0_0 t) (st0_1 t) (st0_2 t) (iblk m c 0 t) (iblk m c 1 t) (iblk m c 2 t)
    ∗ controlsDone c t (st0_3 t) (st0_4 t) (iblk m c 0 t) (iblk m c 1 t) (obsIn m c) ∗ decodedLeft m c t)

/-- At a batch entry's first point the decoded outputs hold anything. -/
theorem decoded_any : decodedFound m c t ⊢ decodedAny c (st0_5 t) (st0_6 t) (st0_7 t) := by
  iintro ⟨⟨%d5, H5⟩, ⟨%d6, H6⟩, ⟨%d7, H7⟩⟩
  isplitl [H5]; · iexists _; iexact H5
  isplitl [H6]; · iexists _; iexact H6
  iexists _; iexact H7
/-- Past it they hold the entry's decoded scores. -/
theorem decoded_stays (h : t.val % 8 ≠ 0) : decodedFound m c t ⊢ decodedLeft m c t := by
  simp only [decodedFound, found_5 m c t h, found_6 m c t h, found_7 m c t h]
  iintro ⟨⟨%d5, H5⟩, ⟨%d6, H6⟩, ⟨%d7, H7⟩⟩
  isplitl [H5]; · iexact H5
  isplitl [H6]; · iexact H6
  iexact H7

/-- The body at any point: from what it finds to what it leaves, the ring one step on. -/
theorem point_sound (W : Waits sig Unit) (K : PUnit → sProp 𝕄) :
    iprop(ringInv c (obsIn m c) t.val ∗ windowsFound m c t ∗ owes (c : Thread nD τ) 0 W
        ∗ (iprop(ringInv c (obsIn m c) (t.val + 1) ∗ windowsLeft m c t ∗ ∃ W', owes (c : Thread nD τ) 0 W') -∗ K ⟨⟩))
      ⊢ wp frame (wpE (defs₀ (F := F)) Variants.none c none) Set.univ (bodyAt0 t) K := by
  have hN : t.val < 64 := lt_of_lt_of_eq t.isLt (show cfg0.N = 64 from N_0)
  by_cases h0 : t.val = 0
  · have h8 : t.val % 8 = 0 := by omega
    have h5 : t.val + 5 < 64 := by omega
    iintro ⟨HR, ⟨Hi, Hc, Hd⟩, HW, Hk⟩
    ihave Hr := (first_in c (obsIn m c) t.val h0) $$ HR
    ihave Ha := (decoded_any m c t) $$ Hd
    icases Hr with ⟨R0, R1, R2, R3, R4, R5⟩
    iapply (body_first c t _ _ _ _ _ _ _ _ _ _ _ _ _ _ _ _ (iblk m c 0 t) (iblk m c 1 t) (iblk m c 2 t) (obsIn m c) ((atFirst_iff t).mpr h0) ((hasAhead_iff t).mpr h5) ((atBatch_iff t).mpr h8) W _)
    isplitl [Hi]; · iexact Hi
    isplitl [Hc]; · iexact Hc
    isplitl [Ha]; · iexact Ha
    isplitl [R0]; · iexact R0
    isplitl [R1]; · iexact R1
    isplitl [R2]; · iexact R2
    isplitl [R3]; · iexact R3
    isplitl [R4]; · iexact R4
    isplitl [R5]; · iexact R5
    isplitl [HW]; · iexact HW
    iintro ⟨Hi, Hc, Hd, F1, F2, F3, F4, F5, R0, HW⟩
    iapply Hk
    isplitl [F1 F2 F3 F4 F5 R0]
    · iapply (first_out c (obsIn m c) t.val h0)
      isplitl [F1]; · iexact F1
      isplitl [F2]; · iexact F2
      isplitl [F3]; · iexact F3
      isplitl [F4]; · iexact F4
      isplitl [F5]; · iexact F5
      iexact R0
    isplitl [Hi Hc Hd]
    · isplitl [Hi]; · iexact Hi
      isplitl [Hc]; · iexact Hc
      iexact Hd
    iexact HW
  iintro ⟨HR, ⟨Hi, Hc, Hd⟩, HW, Hk⟩
  ihave Hr := (later_in c (obsIn m c) t.val h0 hN) $$ HR
  icases Hr with ⟨Hf, Hn, Hb⟩
  by_cases h5 : t.val + 5 < 64
  · by_cases h8 : t.val % 8 = 0
    · ihave Ha := (decoded_any m c t) $$ Hd
      iapply (body_batch c t _ _ _ _ _ _ _ _ _ _ _ _ _ _ _ _ (iblk m c 0 t) (iblk m c 1 t) (iblk m c 2 t) (obsIn m c) (mt (atFirst_iff t).mp h0) ((hasAhead_iff t).mpr h5) ((atBatch_iff t).mpr h8) W _)
      isplitl [Hi]; · iexact Hi
      isplitl [Hc]; · iexact Hc
      isplitl [Ha]; · iexact Ha
      isplitl [Hf]; · iexact Hf
      isplitl [Hn]; · iexact Hn
      isplitl [HW]; · iexact HW
      iintro ⟨Hi, Hc, Hd, Hf, Hn, HW⟩
      iapply Hk
      isplitl [Hf Hn Hb]
      · iapply (later_out c (obsIn m c) t.val)
        rw [stage_flying c (obsIn m c) (t.val + 5) h5]
        isplitl [Hf]; · iexact Hf
        isplitl [Hn]; · iexact Hn
        iexact Hb
      isplitl [Hi Hc Hd]
      · isplitl [Hi]; · iexact Hi
        isplitl [Hc]; · iexact Hc
        iexact Hd
      iexact HW
    · ihave Ha := (decoded_stays m c t h8) $$ Hd
      iapply (body_mid c t _ _ _ _ _ _ _ _ _ _ _ _ _ _ _ _ (iblk m c 0 t) (iblk m c 1 t) (iblk m c 2 t) _ _ _ (obsIn m c) (mt (atFirst_iff t).mp h0) ((hasAhead_iff t).mpr h5) (mt (atBatch_iff t).mp h8) W _)
      isplitl [Hi]; · iexact Hi
      isplitl [Hc]; · iexact Hc
      isplitl [Ha]; · iexact Ha
      isplitl [Hf]; · iexact Hf
      isplitl [Hn]; · iexact Hn
      isplitl [HW]; · iexact HW
      iintro ⟨Hi, Hc, Hd, Hf, Hn, HW⟩
      iapply Hk
      isplitl [Hf Hn Hb]
      · iapply (later_out c (obsIn m c) t.val)
        rw [stage_flying c (obsIn m c) (t.val + 5) h5]
        isplitl [Hf]; · iexact Hf
        isplitl [Hn]; · iexact Hn
        iexact Hb
      isplitl [Hi Hc Hd]
      · isplitl [Hi]; · iexact Hi
        isplitl [Hc]; · iexact Hc
        iexact Hd
      iexact HW
  · have h8 : t.val % 8 ≠ 0 := by omega
    ihave Ha := (decoded_stays m c t h8) $$ Hd
    iapply (body_last c t _ _ _ _ _ _ _ _ _ _ _ _ _ _ _ _ (iblk m c 0 t) (iblk m c 1 t) (iblk m c 2 t) _ _ _ (obsIn m c) (mt (atFirst_iff t).mp h0) (mt (hasAhead_iff t).mp h5) (mt (atBatch_iff t).mp h8) W _)
    isplitl [Hi]; · iexact Hi
    isplitl [Hc]; · iexact Hc
    isplitl [Ha]; · iexact Ha
    isplitl [Hf]; · iexact Hf
    isplitl [HW]; · iexact HW
    iintro ⟨Hi, Hc, Hd, Hf, HW⟩
    iapply Hk
    isplitl [Hf Hn Hb]
    · iapply (later_out c (obsIn m c) t.val)
      rw [stage_resting c (obsIn m c) (t.val + 5) h5]
      isplitl [Hn]; · iexact Hn
      isplitl [Hf]; · iexact Hf
      iexact Hb
    isplitl [Hi Hc Hd]
    · isplitl [Hi]; · iexact Hi
      isplitl [Hc]; · iexact Hc
      iexact Hd
    iexact HW

/-- The body's row of the table is the body at the point. -/
theorem row_eq : defs₀ (F := F) .tc cfg0.body (cfg0.bodyArgs t (cfg0.slots t)) = bodyAt0 t := by
  unfold defs₀; rw [Defs.onTc_tc]

/-- The obligation of the pipeline's rule at every point. -/
theorem obligation : BodyObligation (dats (F := F) m 0 c) (defs₀ (F := F)) Variants.none () Set.univ := fun t => by
  have hwait (W : Waits sig Unit) : owes (c : Thread nD τ) 0 W ⊢ (dats m 0 c).owesAt () t.succ := by
    unfold Dat.owesAt Pipeline.owesWithin
    iintro H; iexists W; isplitr; · ipureintro; exact fun _ _ => Or.inl trivial
    iexact H
  have hout (w : Fin cfg0.W) (hw : ∀ i, cfg0.idle w i = !(k0_cond3 i == 1#1)) (h : t.val % 8 ≠ 0 → ∃ d, (dats m 0 c).before w t d = (dats m 0 c).after w t) :=
    leaves_after m c t w fun e => h ((idle_iff w hw t).mp e)
  have l0 := leaves_after m c t 0 fun e => absurd e Bool.false_ne_true
  have l1 := leaves_after m c t 1 fun e => absurd e Bool.false_ne_true
  have l2 := leaves_after m c t 2 fun e => absurd e Bool.false_ne_true
  have l3 := leaves_after m c t 3 fun e => absurd e Bool.false_ne_true
  have l4 := leaves_after m c t 4 fun e => absurd e Bool.false_ne_true
  have l5 := hout 5 (fun _ => rfl) fun h => ⟨gammaOf (iblk m c 2 t), (found_5 m c t h _).trans (after_5 m c t).symm⟩
  have l6 := hout 6 (fun _ => rfl) fun h => ⟨readOf (iblk m c 2 t), (found_6 m c t h _).trans (after_6 m c t).symm⟩
  have l7 := hout 7 (fun _ => rfl) fun h => ⟨writeOf (iblk m c 2 t), (found_7 m c t h _).trans (after_7 m c t).symm⟩
  rw [after_0] at l0; rw [after_1] at l1; rw [after_2] at l2; rw [after_3] at l3; rw [after_4] at l4; rw [after_5] at l5; rw [after_6] at l6; rw [after_7] at l7
  rw [bigSep_W0, bigSep_W0, row_eq]
  dsimp only
  rw [show (dats m 0 c).Φ t.castSucc = iprop(ringInv c (obsIn m c) t.val ∗ ∃ r, prngReg c r) from rfl,
    show (dats m 0 c).Φ t.succ = iprop(ringInv c (obsIn m c) (t.val + 1) ∗ ∃ r, prngReg c r) from rfl]
  simp only [found_0, found_1, found_2]
  iintro ⟨⟨HR, Hg⟩, HW, ⟨%d0, H0⟩, ⟨%d1, H1⟩, ⟨%d2, H2⟩, ⟨%d3, H3⟩, ⟨%d4, H4⟩, H5, H6, H7⟩
  unfold Dat.owesAt Pipeline.owesWithin
  icases HW with ⟨%W, -, HW⟩
  iapply (point_sound m c t W _)
  isplitl [HR]; · iexact HR
  isplitl [H0 H1 H2 H3 H4 H5 H6 H7]
  · isplitl [H0 H1 H2]
    · isplitl [H0]; · iexact H0
      isplitl [H1]; · iexact H1
      iexact H2
    isplitl [H3 H4]
    · isplitl [H3]; · iexists _; iexact H3
      iexists _; iexact H4
    isplitl [H5]; · iexact H5
    isplitl [H6]; · iexact H6
    iexact H7
  isplitl [HW]; · iexact HW
  iintro ⟨HR, ⟨⟨H0, H1, H2⟩, ⟨H3, H4⟩, H5, H6, H7⟩, %W', HW⟩
  isplitl [HR Hg]
  · isplitl [HR]; · iexact HR
    iexact Hg
  isplitl [HW]
  · iapply (hwait W'); iexact HW
  isplitl [H0]; · iapply l0; iexact H0
  isplitl [H1]; · iapply l1; iexact H1
  isplitl [H2]; · iapply l2; iexact H2
  isplitl [H3]; · iapply l3; iexact H3
  isplitl [H4]; · iapply l4; iexact H4
  isplitl [H5]; · iapply l5; iexact H5
  isplitl [H6]; · iapply l6; iexact H6
  iapply l7; iexact H7

end Point

/-! ## The run -/

/-- The lines around the region, at this instance's monoid. -/
theorem lines : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The lines after the region leave the observations alone. -/
theorem lines_apart : ∀ ops ∈ ([hostOps1] : List (List (HloOp τ sig (Elt F)))), ∀ op ∈ ops,
    op.bufs ⊆ Pipeline.tailRefsBut sig Pipeline.Prefetch.none spec0 lentRefs := by
  intro ops hops op hop
  obtain rfl := List.mem_singleton.mp hops
  refine Pipeline.sub_tailRefsBut Pipeline.Prefetch.none spec0 lentRefs op ((List.forall_iff_forall_mem.mp hostOps1_sub) op hop) (fun j => j.elim0) ?_
  intro b hb
  obtain rfl := Finset.mem_singleton.mp hb
  simp only [hostOps1, List.mem_cons, List.mem_nil_iff, or_false] at hop
  rcases hop with rfl | rfl | rfl <;> simp only [StableHlo.unary_bufs, StableHlo.binary_bufs, Finset.mem_insert, Finset.mem_singleton, not_or] <;>
    and_intros <;> exact StableHlo.devRef_ne_of_ne (by decide)

set_option backward.isDefEq.respectTransparency.types false in
set_option maxHeartbeats 800000 in
/-- The run: from any memory every execution ends, each array holding what its blocks were left at, every other buffer
    what the lines after the region make of it, and every counter at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 cellR defs₀ Variants.none cells_own lentRefs lentRefs_sub m ρ main
    (hbody := fun c => (obligation m c).loose) (hshare := fun c => (dats m 0 c).share_full fun _ => rfl)
    (howed := fun _ _ => rfl) (V₀ := V0 m) (opss := [hostOps1]) (hsub := lines_apart) (hfresh := sfx_fresh) (hkeep := sfx_keeps)
    (hmain := lines m) (hA := A_eq m) (hin := ring_enter m) (hout := ring_leave m)

/-- A buffer that is no window's array and that no line after the region writes ends as the region found it. -/
theorem tail_keeps (c : Dev nD) (b : Ref sig .tc) (hb : ∀ w, Pipeline.arrRef spec0 w ≠ b) (h2 : b ≠ main_v2) (h3 : b ≠ main_v3) (h4 : b ≠ main_v4) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes, StableHlo.binary_writes, Finset.mem_singleton]
      exact ⟨StableHlo.devRef_ne_of_ne h2, StableHlo.devRef_ne_of_ne h3, StableHlo.devRef_ne_of_ne h4⟩)),
    Pipeline.withArrays_of_ne _ c (V0 m c) _ b hb]

/-- After the run the arguments are as they were. -/
theorem args_stay {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans
      ((tail_keeps m c main_arg0 (by decide) (by decide) (by decide) (by decide)).trans (V_main_arg0 m c)),
    ((h c).1 2).trans (((dats m 0 c).arrAt_in 2 rfl _).trans ((A_eq m c 2).trans (V_main_arg1 m c))),
    ((h c).1 0).trans (((dats m 0 c).arrAt_in 0 rfl _).trans ((A_eq m c 0).trans (V_main_arg2 m c))),
    ((h c).2 main_arg3 (Pipeline.mem_restRefs_of main_arg3 (by decide) (by decide))).trans
      ((tail_keeps m c main_arg3 (by decide) (by decide) (by decide) (by decide)).trans (V_main_arg3 m c))⟩

/-- The frame: every execution ends, the arguments as they were, every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_stay m h.1, h.2⟩) (run_all m ρ)

end Cert.KernelIdeal.Own

end
-- ==== Proof.K.Same.lean ====
module

public import proofs.«01_k».proof.Defs
public import proofs.«01_k».proof.Proof.Gen.Kernel
public import proofs.«01_k».proof.Proof.K.Run

@[expose] public section

set_option maxRecDepth 16384

noncomputable section

/-!
The kernel and its ideal program are the same text, so what is proved of the one's run at any float instance holds of the
other's.
-/

namespace Cert

open Idealize.ShloMosaic Idealize.SL.Sem

variable {F : FTy → Type} [FloatOps F]

/-- The two body tables agree, -/
theorem bodies_same [Cert.Kernel.Facts] [Cert.KernelIdeal.Facts] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨n + 1, h⟩, _ => exact absurd h (Nat.not_lt.2 (Nat.le_add_left _ _))
/-- so do the tables with the region in them, -/
theorem defs_same [Cert.Kernel.Facts] [Cert.KernelIdeal.Facts] : Cert.Kernel.defs (F := F) = Cert.KernelIdeal.defs (F := F) := by
  unfold Cert.Kernel.defs Cert.KernelIdeal.defs
  rw [bodies_same]; rfl
/-- and the two programs. -/
theorem main_same [Cert.Kernel.Facts] [Cert.KernelIdeal.Facts] : Cert.Kernel.main (F := F) = Cert.KernelIdeal.main (F := F) := rfl

/-- The kernel's frame, over the machine's floats. -/
theorem kernel_frame : quiescent_Kernel (hKernel := Cert.Kernel.Gen.facts) := fun m g _ => by
  have h := Cert.KernelIdeal.Own.frame_all (F := Bits) m g
  rw [← defs_same, ← main_same] at h
  exact h

/-- The ideal program's frame. -/
theorem ideal_frame : quiescent_KernelIdeal (hKernelIdeal := Cert.KernelIdeal.Gen.facts) := fun m g _ =>
  Cert.KernelIdeal.Own.frame_all (F := Ideal) m g

end Cert

end
-- ==== Proof.R.Line.lean ====
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.StableHlo.RunRead

@[expose] public section

set_option maxRecDepth 16384

noncomputable section

/-!
The run of the reference: its operations in order, and the frame.
-/

namespace Cert.ReferenceIdeal.Own

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
def ops : List (HloOp τ sig (Elt F)) := [
  unary main_arg2 main_v0 ((transpose S128x1 [1, 0] · transposes_S1x128_S128x1_1_0) : (⟨S1x128, .f32⟩ : BufTy).Contents (Elt F) → (⟨S128x1, .f32⟩ : BufTy).Contents (Elt F)),
  binary main_arg0 main_v0 main_v1 ((fun l r => Host.dotGeneral dot_S8x256x256x128_S128x1_S8x256x256x1_3_0_012_1_n_n none l r) : (⟨S8x256x256x128, .f32⟩ : BufTy).Contents (Elt F) → (⟨S128x1, .f32⟩ : BufTy).Contents (Elt F) → (⟨S8x256x256x1, .f32⟩ : BufTy).Contents (Elt F)),
  unary main_arg3 main_v2 (broadcastInDim S1x1x1x1 ![3] bcast_S1_S1x1x1x1_3 : (⟨S1, .f32⟩ : BufTy).Contents (Elt F) → (⟨S1x1x1x1, .f32⟩ : BufTy).Contents (Elt F)),
  unary main_v2 main_v3 (broadcastInDim S8x256x256x1 ![0, 1, 2, 3] bcast_S1x1x1x1_S8x256x256x1_0_1_2_3 : (⟨S1x1x1x1, .f32⟩ : BufTy).Contents (Elt F) → (⟨S8x256x256x1, .f32⟩ : BufTy).Contents (Elt F)),
  binary main_v1 main_v3 main_v4 (addf : (⟨S8x256x256x1, .f32⟩ : BufTy).Contents (Elt F) → (⟨S8x256x256x1, .f32⟩ : BufTy).Contents (Elt F) → (⟨S8x256x256x1, .f32⟩ : BufTy).Contents (Elt F)),
  TRef.unary (.of main_v4) main_call0.v0 Host.negf,
  TRef.nullary main_call0.call0.cst (constant S_ .f32 0x00000000#32),
  TRef.unary main_call0.call0.cst main_call0.call0.v0 (broadcastInDim S8x256x256x1 ![] bcast_S_S8x256x256x1),
  TRef.binary main_call0.v0 main_call0.call0.v0 main_call0.call0.v1 maximumf,
  TRef.unary main_call0.call0.cst main_call0.call0.v2 (broadcastInDim S8x256x256x1 ![] bcast_S_S8x256x256x1),
  TRef.binary main_call0.v0 main_call0.call0.v2 main_call0.call0.v3 subf,
  TRef.binary main_call0.call0.v3 main_call0.call0.v3 main_call0.call0.v4 (cmpf .une),
  TRef.unary main_call0.call0.cst main_call0.call0.v5 (broadcastInDim S8x256x256x1 ![] bcast_S_S8x256x256x1),
  TRef.binary main_call0.v0 main_call0.call0.v5 main_call0.call0.v6 addf,
  TRef.unary main_call0.call0.v3 main_call0.call0.v7 Host.absf,
  TRef.unary main_call0.call0.v7 main_call0.call0.v8 Host.negf,
  TRef.unary main_call0.call0.v8 main_call0.call0.v9 Host.exp,
  TRef.unary main_call0.call0.v9 main_call0.call0.v10 Host.log1p,
  TRef.binary main_call0.call0.v1 main_call0.call0.v10 main_call0.call0.v11 addf,
  TRef.ternary main_call0.call0.v4 main_call0.call0.v6 main_call0.call0.v11 main_call0.call0.v12 select,
  TRef.unary main_call0.call0.v12 main_call0.v2 Host.negf,
  binary main_v5 main_v4 main_v6 (subf : (⟨S8x256x256x1, .f32⟩ : BufTy).Contents (Elt F) → (⟨S8x256x256x1, .f32⟩ : BufTy).Contents (Elt F) → (⟨S8x256x256x1, .f32⟩ : BufTy).Contents (Elt F)),
  binary main_v5 main_v6 main_v7 ((fun a b => concatenate S8x256x256x2 3 [⟨S8x256x256x1, a⟩, ⟨S8x256x256x1, b⟩] concatenates_S8x256x256x1_S8x256x256x1_S8x256x256x2_d3) : (⟨S8x256x256x1, .f32⟩ : BufTy).Contents (Elt F) → (⟨S8x256x256x1, .f32⟩ : BufTy).Contents (Elt F) → (⟨S8x256x256x2, .f32⟩ : BufTy).Contents (Elt F)),
  nullary main_v8 (sitofp .f32 (iotaInDim S256 32 0)),
  nullary main_cst (constant S_ .f32 0x43800000#32),
  unary main_cst main_v9 (broadcastInDim S256 ![] bcast_S_S256 : (⟨S_, .f32⟩ : BufTy).Contents (Elt F) → (⟨S256, .f32⟩ : BufTy).Contents (Elt F)),
  binary main_v8 main_v9 main_v10 (Host.divf : (⟨S256, .f32⟩ : BufTy).Contents (Elt F) → (⟨S256, .f32⟩ : BufTy).Contents (Elt F) → (⟨S256, .f32⟩ : BufTy).Contents (Elt F)),
  unary main_v10 main_v11 (broadcastInDim S1x1x256 ![2] bcast_S256_S1x1x256_2 : (⟨S256, .f32⟩ : BufTy).Contents (Elt F) → (⟨S1x1x256, .f32⟩ : BufTy).Contents (Elt F)),
  nullary main_cst_0 (constant S_ .f32 0x3DCCCCCD#32),
  unary main_cst_0 main_v12 (broadcastInDim S1x1x256 ![] bcast_S_S1x1x256 : (⟨S_, .f32⟩ : BufTy).Contents (Elt F) → (⟨S1x1x256, .f32⟩ : BufTy).Contents (Elt F)),
  binary main_v12 main_v11 main_v13 (mulf : (⟨S1x1x256, .f32⟩ : BufTy).Contents (Elt F) → (⟨S1x1x256, .f32⟩ : BufTy).Contents (Elt F) → (⟨S1x1x256, .f32⟩ : BufTy).Contents (Elt F)),
  unary main_v13 main_v14 (broadcastInDim S8x256x256 ![0, 1, 2] bcast_S1x1x256_S8x256x256_0_1_2 : (⟨S1x1x256, .f32⟩ : BufTy).Contents (Elt F) → (⟨S8x256x256, .f32⟩ : BufTy).Contents (Elt F)),
  binary main_arg1 main_v14 main_v15 (subf : (⟨S8x256x256, .f32⟩ : BufTy).Contents (Elt F) → (⟨S8x256x256, .f32⟩ : BufTy).Contents (Elt F) → (⟨S8x256x256, .f32⟩ : BufTy).Contents (Elt F)),
  TRef.nullary main_call1.v0 (iotaInDim S8x256x256 32 2),
  TRef.nullary main_call1.cst (constant S_ .f32 0xFF800000#32),
  TRef.nullary main_call1.c (constantI S_ 32 0#32),
  TRef.quaternary (.of main_v15) main_call1.v0 main_call1.cst main_call1.c main_call1.v1_0 (fun x y u v j => (Host.argReduce reducer_argmax_f32_i32 x y u v reducesTo_S8x256x256_S8x256_d2 h_S_ j).1),
  TRef.quaternary (.of main_v15) main_call1.v0 main_call1.cst main_call1.c main_call1.v1_1 (fun x y u v j => (Host.argReduce reducer_argmax_f32_i32 x y u v reducesTo_S8x256x256_S8x256_d2 h_S_ j).2),
  TRef.nullary main_call2.c (constantI S_ 32 2147483648#32),
  TRef.unary main_call2.c main_call2.v0 (broadcastInDim S_ ![] bcast_S_S_),
  TRef.binary (.of main_v16) main_call2.v0 main_call2.v1 (fun x v => Host.reduceWindow IntOp.maxsi ![1, 256] ![1, 1] ![0, 255] ![0, 0] x v reduceWindows_S8x256_S8x256_w1s1p0_0_w256s1p255_0 h_S_),
  nullary main_v18 (iotaInDim S8 32 0),
  unary main_v18 main_v19 (broadcastInDim S8x1 ![0] bcast_S8_S8x1_0 : (⟨S8, .i32⟩ : BufTy).Contents (Elt F) → (⟨S8x1, .i32⟩ : BufTy).Contents (Elt F)),
  nullary main_v20 (iotaInDim S256 32 0),
  unary main_v20 main_v21 (broadcastInDim S1x256 ![1] bcast_S256_S1x256_1 : (⟨S256, .i32⟩ : BufTy).Contents (Elt F) → (⟨S1x256, .i32⟩ : BufTy).Contents (Elt F)),
  nullary main_cst_1 (constant S_ .f32 0x00000000#32),
  unary main_cst_1 main_v22 (broadcastInDim S8x256x256 ![] bcast_S_S8x256x256 : (⟨S_, .f32⟩ : BufTy).Contents (Elt F) → (⟨S8x256x256, .f32⟩ : BufTy).Contents (Elt F)),
  nullary main_c (constantI S_ 32 0#32),
  unary main_c main_v23 (broadcastInDim S8x1 ![] bcast_S_S8x1 : (⟨S_, .i32⟩ : BufTy).Contents (Elt F) → (⟨S8x1, .i32⟩ : BufTy).Contents (Elt F)),
  binary main_v19 main_v23 main_v24 (cmpi .slt : (⟨S8x1, .i32⟩ : BufTy).Contents (Elt F) → (⟨S8x1, .i32⟩ : BufTy).Contents (Elt F) → (⟨S8x1, .i1⟩ : BufTy).Contents (Elt F)),
  nullary main_c_2 (constantI S_ 32 8#32),
  unary main_c_2 main_v25 (broadcastInDim S8x1 ![] bcast_S_S8x1 : (⟨S_, .i32⟩ : BufTy).Contents (Elt F) → (⟨S8x1, .i32⟩ : BufTy).Contents (Elt F)),
  binary main_v19 main_v25 main_v26 (addi : (⟨S8x1, .i32⟩ : BufTy).Contents (Elt F) → (⟨S8x1, .i32⟩ : BufTy).Contents (Elt F) → (⟨S8x1, .i32⟩ : BufTy).Contents (Elt F)),
  ternary main_v24 main_v26 main_v19 main_v27 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
  nullary main_c_3 (constantI S_ 32 0#32),
  unary main_c_3 main_v28 (broadcastInDim S1x256 ![] bcast_S_S1x256 : (⟨S_, .i32⟩ : BufTy).Contents (Elt F) → (⟨S1x256, .i32⟩ : BufTy).Contents (Elt F)),
  binary main_v21 main_v28 main_v29 (cmpi .slt : (⟨S1x256, .i32⟩ : BufTy).Contents (Elt F) → (⟨S1x256, .i32⟩ : BufTy).Contents (Elt F) → (⟨S1x256, .i1⟩ : BufTy).Contents (Elt F)),
  nullary main_c_4 (constantI S_ 32 256#32),
  unary main_c_4 main_v30 (broadcastInDim S1x256 ![] bcast_S_S1x256 : (⟨S_, .i32⟩ : BufTy).Contents (Elt F) → (⟨S1x256, .i32⟩ : BufTy).Contents (Elt F)),
  binary main_v21 main_v30 main_v31 (addi : (⟨S1x256, .i32⟩ : BufTy).Contents (Elt F) → (⟨S1x256, .i32⟩ : BufTy).Contents (Elt F) → (⟨S1x256, .i32⟩ : BufTy).Contents (Elt F)),
  ternary main_v29 main_v31 main_v21 main_v32 (select : (⟨S1x256, .i1⟩ : BufTy).Contents (Elt F) → (⟨S1x256, .i32⟩ : BufTy).Contents (Elt F) → (⟨S1x256, .i32⟩ : BufTy).Contents (Elt F) → (⟨S1x256, .i32⟩ : BufTy).Contents (Elt F)),
  nullary main_c_5 (constantI S_ 32 0#32),
  unary main_c_5 main_v33 (broadcastInDim S8x256 ![] bcast_S_S8x256 : (⟨S_, .i32⟩ : BufTy).Contents (Elt F) → (⟨S8x256, .i32⟩ : BufTy).Contents (Elt F)),
  binary main_v17 main_v33 main_v34 (cmpi .slt : (⟨S8x256, .i32⟩ : BufTy).Contents (Elt F) → (⟨S8x256, .i32⟩ : BufTy).Contents (Elt F) → (⟨S8x256, .i1⟩ : BufTy).Contents (Elt F)),
  nullary main_c_6 (constantI S_ 32 256#32),
  unary main_c_6 main_v35 (broadcastInDim S8x256 ![] bcast_S_S8x256 : (⟨S_, .i32⟩ : BufTy).Contents (Elt F) → (⟨S8x256, .i32⟩ : BufTy).Contents (Elt F)),
  binary main_v17 main_v35 main_v36 (addi : (⟨S8x256, .i32⟩ : BufTy).Contents (Elt F) → (⟨S8x256, .i32⟩ : BufTy).Contents (Elt F) → (⟨S8x256, .i32⟩ : BufTy).Contents (Elt F)),
  ternary main_v34 main_v36 main_v17 main_v37 (select : (⟨S8x256, .i1⟩ : BufTy).Contents (Elt F) → (⟨S8x256, .i32⟩ : BufTy).Contents (Elt F) → (⟨S8x256, .i32⟩ : BufTy).Contents (Elt F) → (⟨S8x256, .i32⟩ : BufTy).Contents (Elt F)),
  unary main_v27 main_v38 (broadcastInDim S8x256 ![0, 1] bcast_S8x1_S8x256_0_1 : (⟨S8x1, .i32⟩ : BufTy).Contents (Elt F) → (⟨S8x256, .i32⟩ : BufTy).Contents (Elt F)),
  unary main_v32 main_v39 (broadcastInDim S8x256 ![0, 1] bcast_S1x256_S8x256_0_1 : (⟨S1x256, .i32⟩ : BufTy).Contents (Elt F) → (⟨S8x256, .i32⟩ : BufTy).Contents (Elt F)),
  unary main_v38 main_v40 (broadcastInDim S8x256x1 ![0, 1] bcast_S8x256_S8x256x1_0_1 : (⟨S8x256, .i32⟩ : BufTy).Contents (Elt F) → (⟨S8x256x1, .i32⟩ : BufTy).Contents (Elt F)),
  unary main_v39 main_v41 (broadcastInDim S8x256x1 ![0, 1] bcast_S8x256_S8x256x1_0_1 : (⟨S8x256, .i32⟩ : BufTy).Contents (Elt F) → (⟨S8x256x1, .i32⟩ : BufTy).Contents (Elt F)),
  unary main_v37 main_v42 (broadcastInDim S8x256x1 ![0, 1] bcast_S8x256_S8x256x1_0_1 : (⟨S8x256, .i32⟩ : BufTy).Contents (Elt F) → (⟨S8x256x1, .i32⟩ : BufTy).Contents (Elt F)),
  nary ![main_v40, main_v41, main_v42] main_v43 (fun u => (concatenate S8x256x3 2 [⟨S8x256x1, (u 0 : (⟨S8x256x1, .i32⟩ : BufTy).Contents (Elt F))⟩, ⟨S8x256x1, (u 1 : (⟨S8x256x1, .i32⟩ : BufTy).Contents (Elt F))⟩, ⟨S8x256x1, (u 2 : (⟨S8x256x1, .i32⟩ : BufTy).Contents (Elt F))⟩] concatenates_S8x256x1_S8x256x1_S8x256x1_S8x256x3_d2 : (⟨S8x256x3, .i32⟩ : BufTy).Contents (Elt F))),
  nullary main_cst_7 (constant S_ .f32 0x3F800000#32),
  unary main_cst_7 main_v44 (broadcastInDim S8x256 ![] bcast_S_S8x256 : (⟨S_, .f32⟩ : BufTy).Contents (Elt F) → (⟨S8x256, .f32⟩ : BufTy).Contents (Elt F)),
  ternary main_v22 main_v43 main_v44 main_v45 ((fun x i u => Host.scatter scatter_S8x256x256_S8x256x3_S8x256_n_012_012_2 (fun _ b => b) x i u) : (⟨S8x256x256, .f32⟩ : BufTy).Contents (Elt F) → (⟨S8x256x3, .i32⟩ : BufTy).Contents (Elt F) → (⟨S8x256, .f32⟩ : BufTy).Contents (Elt F) → (⟨S8x256x256, .f32⟩ : BufTy).Contents (Elt F)),
  TRef.nullary main_call3.call0.cst (constant S_ .f32 0x00000000#32),
  TRef.unary main_call3.call0.cst main_call3.call0.v0 (broadcastInDim S_ ![] bcast_S_S_),
  TRef.binary (.of main_v45) main_call3.call0.v0 main_call3.call0.v1 (fun x v => Host.reduceWindowAdd ![1, 1, 256] ![1, 1, 1] ![0, 0, 255] ![0, 0, 0] x v reduceWindows_S8x256x256_S8x256x256_w1s1p0_0_w1s1p0_0_w256s1p255_0 h_S_),
  unary main_v46 main_v47 ((extractStridedSlice S8x255x256 ![0, 1, 0] · slices_S8x256x256_S8x255x256_0_1_0) : (⟨S8x256x256, .f32⟩ : BufTy).Contents (Elt F) → (⟨S8x255x256, .f32⟩ : BufTy).Contents (Elt F)),
  nullary main_cst_8 (constant S_ .f32 0x3F800000#32),
  unary main_cst_8 main_v48 (broadcastInDim S8x255x256 ![] bcast_S_S8x255x256 : (⟨S_, .f32⟩ : BufTy).Contents (Elt F) → (⟨S8x255x256, .f32⟩ : BufTy).Contents (Elt F)),
  binary main_v48 main_v47 main_v49 (subf : (⟨S8x255x256, .f32⟩ : BufTy).Contents (Elt F) → (⟨S8x255x256, .f32⟩ : BufTy).Contents (Elt F) → (⟨S8x255x256, .f32⟩ : BufTy).Contents (Elt F)),
  unary main_v7 main_v50 ((extractStridedSlice S8x255x256x2 ![0, 0, 0, 0] · slices_S8x256x256x2_S8x255x256x2_0_0_0_0) : (⟨S8x256x256x2, .f32⟩ : BufTy).Contents (Elt F) → (⟨S8x255x256x2, .f32⟩ : BufTy).Contents (Elt F)) ]

set_option maxHeartbeats 4000000 in  -- eighty-five operations compared
/-- The reference is that line, -/
theorem main_eq (c : Dev nD) : main (F := F) c = seq ops := (rfl)

/-- and ends with every buffer at what the line leaves there. -/
theorem run_line (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq (by decide) (by decide) defs main (fun _ => ops) main_eq
    (fun _ => by unfold ops; simp) m ρ (fun _ => by unfold ops; intro _ h; (repeat (cases h with | head => rfl | tail _ h => ?_)); exact nomatch h)

/-- No operation writes argument 0. -/
theorem arg0_stays (V : Valuation τ sig (Elt F)) : after ops V (main_arg0 : DevRef τ sig) = V (main_arg0 : DevRef τ sig) := by
  unfold ops; after_reads_simp

/-- No operation writes argument 1. -/
theorem arg1_stays (V : Valuation τ sig (Elt F)) : after ops V (main_arg1 : DevRef τ sig) = V (main_arg1 : DevRef τ sig) := by
  unfold ops; after_reads_simp

/-- No operation writes argument 2. -/
theorem arg2_stays (V : Valuation τ sig (Elt F)) : after ops V (main_arg2 : DevRef τ sig) = V (main_arg2 : DevRef τ sig) := by
  unfold ops; after_reads_simp

/-- No operation writes argument 3. -/
theorem arg3_stays (V : Valuation τ sig (Elt F)) : after ops V (main_arg3 : DevRef τ sig) = V (main_arg3 : DevRef τ sig) := by
  unfold ops; after_reads_simp

/-- The reference's frame. -/
theorem reference_frame : Cert.quiescent_ReferenceIdeal (hReferenceIdeal := facts) := fun m g _ =>
  (θ_run (Cert.ReferenceIdeal.defs (F := Ideal)) _ _).mono (fun r h =>
    ⟨fun c => ⟨(h c main_arg0).trans (arg0_stays _), (h c main_arg1).trans (arg1_stays _), (h c main_arg2).trans (arg2_stays _),
      (h c main_arg3).trans (arg3_stays _)⟩, sem_eq_zero_of_no_sems (by decide) r.2⟩) (run_line (F := Ideal) m g)

end Cert.ReferenceIdeal.Own

end
-- ==== Proof.V.Spec.lean ====
module

public import Idealize.ShloMosaic.Lib.Pointwise
public import Idealize.ShloMosaic.Lib.WordCmp
public import Idealize.ShloMosaic.PureOps.Ideal.Laws

@[expose] public section

set_option maxRecDepth 16384

noncomputable section

/-!
What both programs compute, element by element, over the extended reals; and the facts about small words that both need.
-/

namespace Cert.Spec

open Idealize.ShloMosaic

/-! ## The controls -/

/-- The log-sigmoid of an extended real, as both programs compute it: minus the softplus of its negation. -/
def logSig (x : EReal) : EReal := -(max (-x) 0 + Ideal.log1p (Ideal.exp (-FloatOps.absf (F := Ideal) (φ := .f32) (-x))))

/-- One score: one position's observations against the gate's weights, plus the bias. -/
def score (w : Fin 128 → EReal) (b : EReal) (o : Fin 128 → EReal) : EReal := (∑ k, o k * w k) + b

/-! ## The first maximum of a row -/

/-- `i` is where the row `k` is first greatest. -/
def IsBest (k : Fin 256 → EReal) (i : Fin 256) : Prop := (∀ j, k j ≤ k i) ∧ ∀ j, j < i → k j < k i

/-- Some position is, -/
theorem exists_best (k : Fin 256 → EReal) : ∃ i, IsBest k i := by
  obtain ⟨m, -, hm⟩ := Finset.exists_max_image (Finset.univ : Finset (Fin 256)) k ⟨0, Finset.mem_univ _⟩
  have hne : (Finset.univ.filter fun i : Fin 256 => k i = k m).Nonempty := ⟨m, by simp⟩
  refine ⟨(Finset.univ.filter fun i : Fin 256 => k i = k m).min' hne, ?_⟩
  have h1 := (Finset.mem_filter.1 (Finset.min'_mem _ hne)).2
  refine ⟨fun j => (hm j (Finset.mem_univ _)).trans h1.ge, fun j hj => ?_⟩
  rw [h1]
  refine lt_of_le_of_ne (hm j (Finset.mem_univ _)) fun he => ?_
  exact absurd (Finset.min'_le _ j (by simp [he])) (not_le.2 hj)

/-- it is named here, -/
def best (k : Fin 256 → EReal) : Fin 256 := (exists_best k).choose
theorem best_is (k : Fin 256 → EReal) : IsBest k (best k) := (exists_best k).choose_spec

/-- and there is no other. -/
theorem best_eq {k : Fin 256 → EReal} {i : Fin 256} (h : IsBest k i) : i = best k := by
  rcases lt_trichotomy i (best k) with hl | he | hg
  · exact absurd (h.1 (best k)) (not_le.2 ((best_is k).2 _ hl))
  · exact he
  · exact absurd ((best_is k).1 i) (not_le.2 (h.2 _ hg))

/-- A position's score less its penalty. -/
def key (x : EReal) (s : Fin 256) : EReal :=
  x - Ideal.ofBits .f32 0x3DCCCCCD#32 * Ideal.div (FloatOps.sitofp (F := Ideal) .f32 (BitVec.ofNat 32 s.val)) (Ideal.ofBits .f32 0x43800000#32)

/-! ## The running maximum -/

/-- The greatest of the `n` entries that end at `t` (all that there are, where there are fewer). -/
def winMax (b : Fin 256 → ℕ) (t : Fin 256) (n : ℕ) : ℕ := (Finset.univ.filter fun r : Fin 256 => r.val ≤ t.val ∧ t.val < r.val + n).sup b

/-- The greatest of the entries up to `t`. -/
def runMax (b : Fin 256 → ℕ) (t : Fin 256) : ℕ := winMax b t 256

theorem winMax_lt {b : Fin 256 → ℕ} (hb : ∀ r, b r < 256) (t : Fin 256) (n : ℕ) : winMax b t n < 256 :=
  (Finset.sup_lt_iff (by decide)).2 fun r _ => hb r

/-- A window of one entry. -/
theorem winMax_one (b : Fin 256 → ℕ) (t : Fin 256) : winMax b t 1 = b t := by
  have h : (Finset.univ.filter fun r : Fin 256 => r.val ≤ t.val ∧ t.val < r.val + 1) = {t} := by
    ext r; simp only [Finset.mem_filter, Finset.mem_univ, true_and, Finset.mem_singleton, Fin.ext_iff]; omega
  rw [winMax, h, Finset.sup_singleton]

/-- Two windows of `n` entries, one below the other, are one of twice as many; -/
theorem winMax_double (b : Fin 256 → ℕ) (t : Fin 256) {n : ℕ} (h : n ≤ t.val) :
    winMax b t (n + n) = max (winMax b t n) (winMax b ⟨t.val - n, by omega⟩ n) := by
  have hu : (Finset.univ.filter fun r : Fin 256 => r.val ≤ t.val ∧ t.val < r.val + (n + n))
      = (Finset.univ.filter fun r : Fin 256 => r.val ≤ t.val ∧ t.val < r.val + n)
        ∪ (Finset.univ.filter fun r : Fin 256 => r.val ≤ t.val - n ∧ t.val - n < r.val + n) := by
    ext r; simp only [Finset.mem_union, Finset.mem_filter, Finset.mem_univ, true_and]; omega
  rw [winMax, hu, Finset.sup_union]; rfl
/-- near the top the lower window is empty. -/
theorem winMax_short (b : Fin 256 → ℕ) (t : Fin 256) {n : ℕ} (h : t.val < n) : winMax b t (n + n) = winMax b t n := by
  unfold winMax; congr 1
  ext r; simp only [Finset.mem_filter, Finset.mem_univ, true_and]; omega

/-- The mask at a row and a position: whether the position is at or past the running maximum. -/
def onOff (b : Fin 256 → ℕ) (t s : Fin 256) : EReal := if runMax b t ≤ s.val then 1 else 0

/-! ## Folds and small words -/

/-- The pattern of minus infinity. -/
theorem minusInf_bits : Ideal.ofBits .f32 0xFF800000#32 = ⊥ := by simp [Ideal.ofBits, Ideal.ieee]

/-- A fold by an operation of which one of the elements absorbs the initial value and every element is that element. -/
theorem fold_absorb {α : Type} {n : ℕ} (op : α → α → α) [Std.Commutative op] [Std.Associative op] (b : α) (f : Fin n → α) (i : Fin n)
    (hb : op (f i) b = f i) (h : ∀ j, op (f i) (f j) = f i) : Finset.univ.fold op b f = f i := by
  have hs : ∀ s : Finset (Fin n), op (f i) (s.fold op b f) = f i := fun s => by
    induction s using Finset.induction_on with
    | empty => simpa using hb
    | insert a s ha ih => rw [Finset.fold_insert ha, ← Std.Associative.assoc (op := op), h, ih]
  rw [← Finset.insert_erase (Finset.mem_univ i), Finset.fold_insert (Finset.notMem_erase i _)]
  exact hs _

/-- A small natural's word, read signed, is the natural. -/
theorem toInt_small {n : ℕ} (h : n < 2 ^ 31) : (BitVec.ofNat 32 n).toInt = n := by
  rw [BitVec.toInt_eq_toNat_cond, BitVec.toNat_ofNat]
  have : n % 2 ^ 32 = n := by omega
  rw [this]; split <;> omega

/-- The signed minimum of two small naturals' words. -/
theorem minsi_small {a c : ℕ} (ha : a < 2 ^ 31) (hc : c < 2 ^ 31) :
    IntOp.minsi (BitVec.ofNat 32 a) (BitVec.ofNat 32 c) = BitVec.ofNat 32 (min a c) := by
  unfold IntOp.minsi
  simp only [BitVec.slt_iff_toInt_lt, toInt_small ha, toInt_small hc, Nat.cast_lt]
  split
  · rw [Nat.min_eq_left (by omega)]
  · rw [Nat.min_eq_right (by omega)]
/-- The signed maximum of two small naturals' words. -/
theorem maxsi_small {a c : ℕ} (ha : a < 2 ^ 31) (hc : c < 2 ^ 31) :
    IntOp.maxsi (BitVec.ofNat 32 a) (BitVec.ofNat 32 c) = BitVec.ofNat 32 (max a c) := by
  unfold IntOp.maxsi
  simp only [BitVec.slt_iff_toInt_lt, toInt_small ha, toInt_small hc, Nat.cast_lt]
  split
  · rw [Nat.max_eq_left (by omega)]
  · rw [Nat.max_eq_right (by omega)]
/-- A negative word gives way to a small natural's. -/
theorem maxsi_negative {a : ℕ} (ha : a < 2 ^ 31) {v : BitVec 32} (hv : v.toInt < 0) : IntOp.maxsi (BitVec.ofNat 32 a) v = BitVec.ofNat 32 a := by
  unfold IntOp.maxsi
  rw [if_pos (by rw [BitVec.slt_iff_toInt_lt, toInt_small ha]; omega)]

/-- A bit widened and read as a float is one or zero. -/
theorem bit_float (p : Prop) [Decidable p] :
    FloatOps.sitofp (F := Ideal) .f32 (BitVec.setWidth 32 (BitVec.ofBool (decide p))) = if p then 1 else 0 := by
  by_cases h : p <;> simp [h, FloatOps.sitofp]

end Cert.Spec

end
-- ==== Proof.V.Gate.lean ====
module

public import proofs.«01_k».proof.Proof.K.Block
public import Idealize.ShloMosaic.Lib.MatmulPlain
public import proofs.«01_k».proof.Proof.V.Spec
public import Idealize.ShloMosaic.PureOps.Ideal.Laws

@[expose] public section

set_option maxRecDepth 16384

noncomputable section

/-!
The two controls, element by element: a point's blocks hold the log-sigmoid of each row's score and that less the score.
-/

namespace Cert.KernelIdeal.Own

open Idealize.ShloMosaic Idealize.ShloMosaic.TcCoe
open Cert.KernelIdeal.Gen Cert.Spec

/-- Two spellings of a zero minuend: `0 - x` is `-x`. -/
theorem zero_minus (x : EReal) : 0 - x = -x := by rw [sub_eq_add_neg, zero_add]

/-- One row's strip, read at a position. -/
theorem strip_apply (w : Vec Ideal S1x128 .f32) (row : Vec Ideal S1x1x256x128 .f32) (s : Fin 256) :
    strip w row (ix2 0 s) = ∑ k : Fin 128, row (ix4 0 0 s k) * w (ix2 0 k) := by
  unfold strip
  pointwise [k0_pay11]
  exact Finset.sum_congr rfl fun k _ => mul_comm _ _

/-- Thirty-two strips stacked, read at a row and a position. -/
theorem stack_apply (u : Fin 32 → FVec Ideal S1x256 .f32) (xs : List ((s : Shape) × (s.Idx → EReal)))
    (hx : xs = List.ofFn fun n : Fin 32 => (⟨S1x256, u n⟩ : (s : Shape) × (s.Idx → EReal)))
    (h : Shape.Concatenates (xs.map (·.1)) S32x256 0) (r : Fin 32) (s : Fin 256) :
    concatenate S32x256 0 xs h (ix2 r s) = u r (ix2 0 s) := by
  subst hx
  refine concatenate_ofFn_unit_apply 0 u h rfl rfl (ix2 r s) r rfl (ix2 0 s) fun b hb => ?_
  match b with
  | ⟨0, _⟩ => exact absurd rfl hb
  | ⟨1, _⟩ => rfl

/-- A block's scores: the strip of the row, plus the bias. -/
theorem scores_apply (u : Fin 32 → FVec Ideal S1x256 .f32) (w : Vec Ideal S1x128 .f32) (row : Vec Ideal S1x1x256x128 .f32) (hu : u 31 = strip w row)
    (b : Vec Ideal S1x1 .f32) (r : Fin 32) (s : Fin 256) :
    k0_pay44 (u 0) (u 1) (u 2) (u 3) (u 4) (u 5) (u 6) (u 7) (u 8) (u 9) (u 10) (u 11) (u 12) (u 13) (u 14) (u 15) (u 16) (u 17) (u 18) (u 19) (u 20) (u 21) (u 22) (u 23) (u 24) (u 25) (u 26) (u 27) (u 28) (u 29) (u 30) w row b (ix2 r s) = u r (ix2 0 s) + b (ix2 0 0) := by
  have hb : extractAt ![0, 0] b inpos_S1x1_p0_0 = b (ix2 0 0) := by pointwise
  rw [← hb]
  exact congrArg (· + extractAt ![0, 0] b inpos_S1x1_p0_0) (stack_apply u _ (by
    show [(⟨S1x256, u 0⟩ : (s : Shape) × (s.Idx → EReal)), (⟨S1x256, u 1⟩ : (s : Shape) × (s.Idx → EReal)), (⟨S1x256, u 2⟩ : (s : Shape) × (s.Idx → EReal)), (⟨S1x256, u 3⟩ : (s : Shape) × (s.Idx → EReal)), (⟨S1x256, u 4⟩ : (s : Shape) × (s.Idx → EReal)), (⟨S1x256, u 5⟩ : (s : Shape) × (s.Idx → EReal)), (⟨S1x256, u 6⟩ : (s : Shape) × (s.Idx → EReal)), (⟨S1x256, u 7⟩ : (s : Shape) × (s.Idx → EReal)), (⟨S1x256, u 8⟩ : (s : Shape) × (s.Idx → EReal)), (⟨S1x256, u 9⟩ : (s : Shape) × (s.Idx → EReal)), (⟨S1x256, u 10⟩ : (s : Shape) × (s.Idx → EReal)), (⟨S1x256, u 11⟩ : (s : Shape) × (s.Idx → EReal)), (⟨S1x256, u 12⟩ : (s : Shape) × (s.Idx → EReal)), (⟨S1x256, u 13⟩ : (s : Shape) × (s.Idx → EReal)), (⟨S1x256, u 14⟩ : (s : Shape) × (s.Idx → EReal)), (⟨S1x256, u 15⟩ : (s : Shape) × (s.Idx → EReal)), (⟨S1x256, u 16⟩ : (s : Shape) × (s.Idx → EReal)), (⟨S1x256, u 17⟩ : (s : Shape) × (s.Idx → EReal)), (⟨S1x256, u 18⟩ : (s : Shape) × (s.Idx → EReal)), (⟨S1x256, u 19⟩ : (s : Shape) × (s.Idx → EReal)), (⟨S1x256, u 20⟩ : (s : Shape) × (s.Idx → EReal)), (⟨S1x256, u 21⟩ : (s : Shape) × (s.Idx → EReal)), (⟨S1x256, u 22⟩ : (s : Shape) × (s.Idx → EReal)), (⟨S1x256, u 23⟩ : (s : Shape) × (s.Idx → EReal)), (⟨S1x256, u 24⟩ : (s : Shape) × (s.Idx → EReal)), (⟨S1x256, u 25⟩ : (s : Shape) × (s.Idx → EReal)), (⟨S1x256, u 26⟩ : (s : Shape) × (s.Idx → EReal)), (⟨S1x256, u 27⟩ : (s : Shape) × (s.Idx → EReal)), (⟨S1x256, u 28⟩ : (s : Shape) × (s.Idx → EReal)), (⟨S1x256, u 29⟩ : (s : Shape) × (s.Idx → EReal)), (⟨S1x256, u 30⟩ : (s : Shape) × (s.Idx → EReal)), ⟨S1x256, strip w row⟩] = _
    rw [← hu]; rfl) _ r s)

/-- A block's first control is the log-sigmoid of its score. -/
theorem sig_apply (u : Fin 32 → FVec Ideal S1x256 .f32) (w : Vec Ideal S1x128 .f32) (row : Vec Ideal S1x1x256x128 .f32) (b : Vec Ideal S1x1 .f32) (j : S32x256.Idx) :
    k0_pay45 (u 0) (u 1) (u 2) (u 3) (u 4) (u 5) (u 6) (u 7) (u 8) (u 9) (u 10) (u 11) (u 12) (u 13) (u 14) (u 15) (u 16) (u 17) (u 18) (u 19) (u 20) (u 21) (u 22) (u 23) (u 24) (u 25) (u 26) (u 27) (u 28) (u 29) (u 30) w row b j = logSig (k0_pay44 (u 0) (u 1) (u 2) (u 3) (u 4) (u 5) (u 6) (u 7) (u 8) (u 9) (u 10) (u 11) (u 12) (u 13) (u 14) (u 15) (u 16) (u 17) (u 18) (u 19) (u 20) (u 21) (u 22) (u 23) (u 24) (u 25) (u 26) (u 27) (u 28) (u 29) (u 30) w row b j) := by
  unfold k0_pay45
  generalize k0_pay44 (u 0) (u 1) (u 2) (u 3) (u 4) (u 5) (u 6) (u 7) (u 8) (u 9) (u 10) (u 11) (u 12) (u 13) (u 14) (u 15) (u 16) (u 17) (u 18) (u 19) (u 20) (u 21) (u 22) (u 23) (u 24) (u 25) (u 26) (u 27) (u 28) (u 29) (u 30) w row b = X
  pointwise
  simp only [zero_minus, ne_eq, not_true_eq_false, if_false]
  rfl

/-- A point's first control, element by element: the log-sigmoid of the position's score; -/
theorem c0Of_apply (w : Vec Ideal S1x128 .f32) (b : Vec Ideal S1x1 .f32) (rows : ℕ → Vec Ideal S1x1x256x128 .f32) (r : Fin 32) (s : Fin 256) :
    c0Of w b rows (ix3 0 r s) = logSig (score (fun k => w (ix2 0 k)) (b (ix2 0 0)) fun k => rows r.val (ix4 0 0 s k)) := by
  unfold c0Of
  pointwise [k0_pay46]
  refine (sig_apply (fun n => strip w (rows n.val)) w (rows 31) b (ix2 r s)).trans (congrArg logSig ?_)
  refine (scores_apply (fun n => strip w (rows n.val)) w (rows 31) rfl b r s).trans ?_
  exact congrArg (· + b (ix2 0 0)) (strip_apply w (rows r.val) s)

/-- and its second, that less the score. -/
theorem c1Of_apply (w : Vec Ideal S1x128 .f32) (b : Vec Ideal S1x1 .f32) (rows : ℕ → Vec Ideal S1x1x256x128 .f32) (r : Fin 32) (s : Fin 256) :
    c1Of w b rows (ix3 0 r s) = logSig (score (fun k => w (ix2 0 k)) (b (ix2 0 0)) fun k => rows r.val (ix4 0 0 s k))
      - score (fun k => w (ix2 0 k)) (b (ix2 0 0)) fun k => rows r.val (ix4 0 0 s k) := by
  have hx := (scores_apply (fun n => strip w (rows n.val)) w (rows 31) rfl b r s).trans
    (congrArg (· + b (ix2 0 0)) (strip_apply w (rows r.val) s))
  have hs := (sig_apply (fun n => strip w (rows n.val)) w (rows 31) b (ix2 r s)).trans (congrArg logSig hx)
  unfold c1Of
  pointwise [k0_pay47]
  exact congrArg₂ (· - ·) hs hx

end Cert.KernelIdeal.Own

end
-- ==== Proof.V.Decode.lean ====
module

public import proofs.«01_k».proof.Proof.K.Block
public import proofs.«01_k».proof.Proof.V.Spec
public import Idealize.ShloMosaic.PureOps.Ideal.Laws

@[expose] public section

set_option maxRecDepth 16384

noncomputable section

/-!
The decode, element by element: each row's first maximum, the running maximum of those over the rows, and the step masks.
-/

namespace Cert.KernelIdeal.Own

open Idealize.ShloMosaic Idealize.ShloMosaic.TcCoe
open Cert.KernelIdeal.Gen Cert.Spec Idealize.ShloMosaic.WordCmp

/-- The kernel's column of first maxima. -/
def bestCol (x : Vec Ideal S1x256x256 .f32) : IVec S256x1 32 :=
  let sc : FVec Ideal S256x256 .f32 := subf (shapeCast S256x256 x shapeCasts_S1x256x256_S256x256)
    (mulf (broadcast S256x256 (Scalar.ofBits .f32 0x3DCCCCCD#32)) (divf (sitofp .f32 (iota .tc S256x256 32 [1] iota_S256x256_d1_w32)) (broadcast S256x256 (Scalar.ofBits .f32 0x43800000#32))))
  shapeCast S256x1 (multiReductionI .minsi [1] S256 (select (cmpf .oeq sc (broadcastTo S256x256 (shapeCast S256x1
    (multiReduction .maximumf [1] S256 sc 0xFF800000#32 reduces_S256x256_S256 (.inl rfl) rfl) shapeCasts_S256_S256x1) broadcasts_S256x1_S256x256))
    (iota .tc S256x256 32 [1] iota_S256x256_d1_w32) (broadcast S256x256 256#32)) 2147483647#32 reduces_S256x256_S256 rfl) shapeCasts_S256_S256x1

/-- One step of the running maximum: each row against the row `k` above it. -/
def step (k : BitVec 32) (v : IVec S256x1 32) : IVec S256x1 32 :=
  maxsi v (select (cmpi .sge (iota .tc S256x1 32 [0] iota_S256x1_d0_w32) (broadcast S256x1 k)) (dynamicRotate 0 k none v rotates_S256x1_d0)
    (broadcast S256x1 4294967295#32))

/-- The kernel's running maximum of the first maxima. -/
def scanned (x : Vec Ideal S1x256x256 .f32) : IVec S256x1 32 :=
  step 128#32 (step 64#32 (step 32#32 (step 16#32 (step 8#32 (step 4#32 (step 2#32 (step 1#32 (bestCol x))))))))

/-- The kernel's masks. -/
theorem mask_eq (x : Vec Ideal S1x256x256 .f32) :
    k0_pay6 (F := Ideal) (iota .tc S256x256 32 [1] iota_S256x256_d1_w32) (iota .tc S256x1 32 [0] iota_S256x1_d0_w32) (k0_pay2 x) (k0_pay3 x) k0_pay4 k0_pay5
      = sitofp .f32 (extui 32 (cmpi .sge (iota .tc S256x256 32 [1] iota_S256x256_d1_w32) (broadcastTo S256x256 (scanned x) broadcasts_S256x1_S256x256)) natLt_1_32) := rfl

/-- The column of first maxima, read at a row. -/
theorem bestCol_apply (x : Vec Ideal S1x256x256 .f32) (t : Fin 256) :
    bestCol x (ix2 t 0) = BitVec.ofNat 32 (best fun s => key (x (ix3 0 t s)) s).val := by
  unfold bestCol
  pointwise
  have hb := best_is fun s => key (x (ix3 0 t s)) s
  have hm : Finset.univ.fold max (Ideal.ofBits .f32 4286578688#32) (fun s => key (x (ix3 0 t s)) s) = key (x (ix3 0 t (best fun s => key (x (ix3 0 t s)) s))) (best fun s => key (x (ix3 0 t s)) s) :=
    fold_absorb max _ _ _ (by rw [minusInf_bits]; exact max_eq_left bot_le) fun j => max_eq_left (hb.1 j)
  refine (congrArg (fun M => Finset.fold IntOp.minsi (2147483647#32) (fun s : Fin 256 => if key (x (ix3 0 t s)) s = M then BitVec.ofNat 32 s.val else 256#32) Finset.univ) hm).trans ?_
  refine (fold_absorb IntOp.minsi _ _ (best fun s => key (x (ix3 0 t s)) s) ?_ fun j => ?_).trans (if_pos rfl)
  · rw [if_pos rfl]; exact (minsi_small (by omega) (by norm_num)).trans (by rw [Nat.min_eq_left (by omega)])
  · rw [if_pos rfl]
    split
    · rename_i he
      have hj : best (fun s => key (x (ix3 0 t s)) s) ≤ j := not_lt.1 fun hl => (hb.2 j hl).ne he
      rw [minsi_small (by omega) (by omega), Nat.min_eq_left hj]
    · exact (minsi_small (by omega) (by norm_num)).trans (by rw [Nat.min_eq_left (by omega)])

/-- A step doubles the window of a running maximum. -/
theorem step_apply {b : Fin 256 → ℕ} (hb : ∀ r, b r < 256) (n : ℕ) (hn : n < 256) (v : IVec S256x1 32)
    (hv : ∀ t : Fin 256, v (ix2 t 0) = BitVec.ofNat 32 (winMax b t n)) (t : Fin 256) :
    step (BitVec.ofNat 32 n) v (ix2 t 0) = BitVec.ofNat 32 (winMax b t (n + n)) := by
  have h1 := winMax_lt hb t n
  unfold step
  pointwise
  rw [cmpi_sge_ofNat (by omega) (by omega), hv]
  by_cases h : n ≤ t.val
  · have h2 := winMax_lt hb ⟨t.val - n, by omega⟩ n
    have e : (⟨(t.val + 256 - (BitVec.ofNat 32 n).toNat % 256) % 256, Nat.mod_lt _ (by norm_num)⟩ : Fin 256) = ⟨t.val - n, by omega⟩ := by
      apply Fin.ext; simp only [BitVec.toNat_ofNat]; omega
    rw [decide_eq_true h, winMax_double b t h, ← maxsi_small (by omega) (by omega), ← hv ⟨t.val - n, by omega⟩, ← e]
    rfl
  · rw [decide_eq_false h, winMax_short b t (by omega)]
    refine maxsi_negative (by omega) ?_
    show (4294967295#32 : BitVec 32).toInt < 0
    decide

/-- The rows' first maxima, as naturals. -/
def bests (x : Vec Ideal S1x256x256 .f32) (t : Fin 256) : ℕ := (best fun s => key (x (ix3 0 t s)) s).val
theorem bests_lt (x : Vec Ideal S1x256x256 .f32) (t : Fin 256) : bests x t < 256 := (best _).isLt

/-- Eight doublings take every entry up to the row. -/
theorem scanned_apply (x : Vec Ideal S1x256x256 .f32) (t : Fin 256) : scanned x (ix2 t 0) = BitVec.ofNat 32 (runMax (bests x) t) := by
  have hb := bests_lt x
  exact step_apply hb 128 (by norm_num) _ (step_apply hb 64 (by norm_num) _ (step_apply hb 32 (by norm_num) _ (step_apply hb 16 (by norm_num) _
    (step_apply hb 8 (by norm_num) _ (step_apply hb 4 (by norm_num) _ (step_apply hb 2 (by norm_num) _ (step_apply hb 1 (by norm_num) _
      fun t => (bestCol_apply x t).trans (by rw [winMax_one]; rfl)))))))) t

/-- The mask, read at a row and a position. -/
theorem mask_apply (x : Vec Ideal S1x256x256 .f32) (t s : Fin 256) :
    FloatOps.sitofp (F := Ideal) .f32 (BitVec.setWidth 32 (IntOp.cmpi .sge (BitVec.ofNat 32 s.val) (scanned x (ix2 t 0)))) = onOff (bests x) t s := by
  have h := winMax_lt (bests_lt x) t 256
  rw [scanned_apply, cmpi_sge_ofNat (by omega) (by unfold runMax; omega)]
  exact bit_float _

/-- Gamma, element by element. -/
theorem gammaOf_apply (x : Vec Ideal S1x256x256 .f32) (t s : Fin 256) : gammaOf x (ix3 0 t s) = onOff (bests x) t s := by
  unfold gammaOf k0_pay7
  rw [mask_eq, ← mask_apply]
  pointwise

/-- The write weights are gamma's rows from the second on, -/
theorem writeOf_apply (x : Vec Ideal S1x256x256 .f32) (t : Fin 255) (s : Fin 256) :
    writeOf x (ix3 0 t s) = onOff (bests x) ⟨1 + t.val, by omega⟩ s := by
  unfold writeOf k0_pay8
  rw [mask_eq, ← mask_apply]
  pointwise

/-- and the read weights are one less those. -/
theorem readOf_apply (x : Vec Ideal S1x256x256 .f32) (t : Fin 255) (s : Fin 256) :
    readOf x (ix3 0 t s) = 1 - onOff (bests x) ⟨1 + t.val, by omega⟩ s := by
  unfold readOf k0_pay1 k0_pay9 k0_pay10
  rw [mask_eq, ← mask_apply]
  pointwise

end Cert.KernelIdeal.Own

end
-- ==== Proof.V.Arrays.lean ====
module

public import proofs.«01_k».proof.Proof.K.Run
public import proofs.«01_k».proof.Proof.V.Gate
public import proofs.«01_k».proof.Proof.V.Decode
public import Idealize.ShloMosaic.Lib.Pipeline.ValueKit.Geometry
public import Idealize.ShloMosaic.Lib.StableHlo.ReadAt

@[expose] public section

set_option maxRecDepth 16384

noncomputable section

/-!
The kernel's result arrays, element by element, from the blocks its points leave.
-/

namespace Cert.KernelIdeal.Own

open Idealize.ShloMosaic Idealize.ShloMosaic.TcCoe
open Cert.KernelIdeal.Gen Cert.Spec

variable (m : (ℓ : Loc nD τ sig) → Buf (Elt Ideal) ℓ) (c : Dev nD)

/-- The point's batch entry and its place within it are the grid's two coordinates. -/
theorem index_2 : ∀ t : Fin cfg0.N, win0_2.index t = ![t.val / 8, 0, 0] := (by decide +kernel : ∀ t : Fin grid0.N, _)
theorem index_3 : ∀ t : Fin cfg0.N, win0_3.index t = ![t.val / 8, t.val % 8, 0] := (by decide +kernel : ∀ t : Fin grid0.N, _)
theorem index_4 : ∀ t : Fin cfg0.N, win0_4.index t = ![t.val / 8, t.val % 8, 0] := (by decide +kernel : ∀ t : Fin grid0.N, _)
theorem index_5 : ∀ t : Fin cfg0.N, win0_5.index t = ![t.val / 8, 0, 0] := (by decide +kernel : ∀ t : Fin grid0.N, _)
theorem index_6 : ∀ t : Fin cfg0.N, win0_6.index t = ![t.val / 8, 0, 0] := (by decide +kernel : ∀ t : Fin grid0.N, _)
theorem index_7 : ∀ t : Fin cfg0.N, win0_7.index t = ![t.val / 8, 0, 0] := (by decide +kernel : ∀ t : Fin grid0.N, _)
theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)

/-- The batch entry of a point. -/
abbrev entry (t : Fin cfg0.N) : Fin 8 := ⟨t.val / 8, by have : t.val < 64 := lt_of_lt_of_eq t.isLt (show cfg0.N = 64 from N_0); omega⟩

/-- A point's block of scores is its batch entry's. -/
theorem scores_block (t : Fin cfg0.N) (r s : Fin 256) :
    iblk m c 2 t (ix3 0 r s) = V m c main_arg1 (ix3 (entry t) r s) := by
  blk_simp [iblk]
  congr 1
  blk_ext [index_2]

/-- The weights' block is the weights. -/
theorem weights_block (t : Fin cfg0.N) (k : Fin 128) : iblk m c 0 t (ix2 0 k) = V m c main_arg2 (ix2 0 k) := by
  blk_simp [iblk]
  congr 1
  blk_ext [index_0]

/-- The bias's block is the bias. -/
theorem bias_block (t : Fin cfg0.N) : iblk m c 1 t (ix2 0 0) = V m c main_v0 (ix2 0 0) := by
  blk_simp [iblk]
  congr 1
  blk_ext [index_1]

/-- Each row's first maximum, of the scores' array at one batch entry. -/
def bestsIn (X : Vec Ideal S8x256x256 .f32) (b : Fin 8) (t : Fin 256) : ℕ := (best fun s => key (X (ix3 b t s)) s).val

/-- A point's rows' first maxima are its batch entry's. -/
theorem bests_block (t : Fin cfg0.N) : bests (iblk m c 2 t) = bestsIn (V m c main_arg1) (entry t) := by
  funext r
  unfold bests bestsIn
  simp only [scores_block]

/-- Row `r` of the 255 that are kept of the 256. -/
def kept (r : Fin 255) : Fin 256 := ⟨r.val, by omega⟩
/-- Row `r` of the 255 past the first. -/
def past (r : Fin 255) : Fin 256 := ⟨1 + r.val, by omega⟩

/-- Gamma's array. -/
theorem final_5 (b : Fin 8) (r : Fin 256) (s : Fin 256) :
    (dats m 0 c).arrAt 5 cfg0.N (ix3 b r s) = onOff (bestsIn (V m c main_arg1) b) r s := by
  have h : (dats m 0 c).arrAt 5 cfg0.N = fun i : S8x256x256.Idx => onOff (bestsIn (V m c main_arg1) (i 0)) (i 1) (i 2) := by
    refine (dats m 0 c).arrAt_eq_of_covers 5 _ (by decide +kernel) fun t hf y => ?_
    obtain ⟨u, r, s, rfl⟩ : ∃ (u : Fin 1) (r : Fin 256) (s : Fin 256), y = ix3 u r s := ⟨y 0, y 1, y 2, eq_ix3 y⟩
    obtain rfl : u = 0 := Subsingleton.elim _ _
    have e : (win0_5.blk t).view.emb (ix3 0 r s) = ix3 (entry t) r s := by blk_ext [index_5]
    blk_simp
    rw [after_5, e]
    refine (gammaOf_apply _ r s).trans ?_
    rw [bests_block]
    rfl
  rw [h]
  rfl

/-- The read weights' array. -/
theorem final_6 (b : Fin 8) (r : Fin 255) (s : Fin 256) :
    (dats m 0 c).arrAt 6 cfg0.N (ix3 b r s) = 1 - onOff (bestsIn (V m c main_arg1) b) (past r) s := by
  have h : (dats m 0 c).arrAt 6 cfg0.N = fun i : S8x255x256.Idx => 1 - onOff (bestsIn (V m c main_arg1) (i 0)) (past (i 1)) (i 2) := by
    refine (dats m 0 c).arrAt_eq_of_covers 6 _ (by decide +kernel) fun t hf y => ?_
    obtain ⟨u, r, s, rfl⟩ : ∃ (u : Fin 1) (r : Fin 255) (s : Fin 256), y = ix3 u r s := ⟨y 0, y 1, y 2, eq_ix3 y⟩
    obtain rfl : u = 0 := Subsingleton.elim _ _
    have e : (win0_6.blk t).view.emb (ix3 0 r s) = ix3 (entry t) r s := by blk_ext [index_6]
    blk_simp
    rw [after_6, e]
    refine (readOf_apply _ r s).trans ?_
    rw [bests_block]
    rfl
  rw [h]
  rfl

/-- The write weights' array. -/
theorem final_7 (b : Fin 8) (r : Fin 255) (s : Fin 256) :
    (dats m 0 c).arrAt 7 cfg0.N (ix3 b r s) = onOff (bestsIn (V m c main_arg1) b) (past r) s := by
  have h : (dats m 0 c).arrAt 7 cfg0.N = fun i : S8x255x256.Idx => onOff (bestsIn (V m c main_arg1) (i 0)) (past (i 1)) (i 2) := by
    refine (dats m 0 c).arrAt_eq_of_covers 7 _ (by decide +kernel) fun t hf y => ?_
    obtain ⟨u, r, s, rfl⟩ : ∃ (u : Fin 1) (r : Fin 255) (s : Fin 256), y = ix3 u r s := ⟨y 0, y 1, y 2, eq_ix3 y⟩
    obtain rfl : u = 0 := Subsingleton.elim _ _
    have e : (win0_7.blk t).view.emb (ix3 0 r s) = ix3 (entry t) r s := by blk_ext [index_7]
    blk_simp
    rw [after_7, e]
    refine (writeOf_apply _ r s).trans ?_
    rw [bests_block]
    rfl
  rw [h]
  rfl

/-- The score of a position of the observations, from the gate the region finds. -/
def gateAt (b : Fin 8) (t s : Fin 256) : EReal :=
  score (fun k => V m c main_arg2 (ix2 0 k)) (V m c main_v0 (ix2 0 0)) fun k => V m c main_arg0 (ix4 b t s k)

/-- The score of a row of a point's block, of a row that the array keeps. -/
theorem gate_block (t : Fin cfg0.N) (r : Fin 32) (R : Fin 255) (hR : R.val = t.val % 8 * 32 + r.val) (s : Fin 256) :
    score (fun k => iblk m c 0 t (ix2 0 k)) (iblk m c 1 t (ix2 0 0)) (fun k => obsRow (obsIn m c) (Ring.bk 64 t.val) r.val (ix4 0 0 s k))
      = gateAt m c (entry t) (kept R) s := by
  have ht : t.val < 64 := lt_of_lt_of_eq t.isLt (show cfg0.N = 64 from N_0)
  unfold gateAt
  simp only [weights_block, bias_block]
  congr 1
  funext k
  have hb : (Ring.bk 64 t.val).val = t.val := Ring.bk_val ht
  refine congrArg (V m c main_arg0) (funext fun a => Fin.ext ?_)
  match a with
  | ⟨0, _⟩ => exact congrArg (· / 8) hb
  | ⟨1, _⟩ =>
    show (32 * ((Ring.bk 64 t.val).val % 8) + r.val) % 256 = R.val
    rw [hb]; omega
  | ⟨2, _⟩ => rfl
  | ⟨3, _⟩ => rfl

/-- The first control's array. -/
theorem final_3 (b : Fin 8) (r : Fin 255) (s : Fin 256) :
    (dats m 0 c).arrAt 3 cfg0.N (ix3 b r s) = logSig (gateAt m c b (kept r) s) := by
  have h : (dats m 0 c).arrAt 3 cfg0.N = fun i : S8x255x256.Idx => logSig (gateAt m c (i 0) (kept (i 1)) (i 2)) := by
    refine (dats m 0 c).arrAt_eq_of_covers 3 _ (by decide +kernel) fun t hf y => ?_
    have h1 : (y 1).val < 32 := Nat.lt_of_lt_of_le (y 1).isLt (win0_3.xsize_le _ 1)
    have h0 : (y 0).val < 1 := Nat.lt_of_lt_of_le (y 0).isLt (win0_3.xsize_le _ 0)
    have h2 := ((win0_3.blk t).view.emb y 1).isLt
    have e : (win0_3.blk t).view.emb y = ix3 (entry t) ⟨t.val % 8 * 32 + (y 1).val, by blk_simp [index_3] at h2; exact h2⟩ (⟨(y 2).val, (y 2).isLt⟩ : Fin 256) := by blk_ext [index_3]
    have e' : (cfg0.win 3).xinj (cfg0.grid.coords t) y = ix3 (0 : Fin 1) (⟨(y 1).val, h1⟩ : Fin 32) (⟨(y 2).val, (y 2).isLt⟩ : Fin 256) := by
      funext a; apply Fin.ext
      match a with
      | ⟨0, _⟩ => exact Nat.lt_one_iff.mp h0
      | ⟨1, _⟩ => rfl
      | ⟨2, _⟩ => rfl
    blk_simp
    rw [after_3, e, e']
    refine (c0Of_apply _ _ _ _ _).trans (congrArg logSig (gate_block m c t _ _ ?_ _))
    rfl
  rw [h]
  rfl

/-- The second control's array. -/
theorem final_4 (b : Fin 8) (r : Fin 255) (s : Fin 256) :
    (dats m 0 c).arrAt 4 cfg0.N (ix3 b r s) = logSig (gateAt m c b (kept r) s) - gateAt m c b (kept r) s := by
  have h : (dats m 0 c).arrAt 4 cfg0.N = fun i : S8x255x256.Idx => logSig (gateAt m c (i 0) (kept (i 1)) (i 2)) - gateAt m c (i 0) (kept (i 1)) (i 2) := by
    refine (dats m 0 c).arrAt_eq_of_covers 4 _ (by decide +kernel) fun t hf y => ?_
    have h1 : (y 1).val < 32 := Nat.lt_of_lt_of_le (y 1).isLt (win0_4.xsize_le _ 1)
    have h0 : (y 0).val < 1 := Nat.lt_of_lt_of_le (y 0).isLt (win0_4.xsize_le _ 0)
    have h2 := ((win0_4.blk t).view.emb y 1).isLt
    have e : (win0_4.blk t).view.emb y = ix3 (entry t) ⟨t.val % 8 * 32 + (y 1).val, by blk_simp [index_4] at h2; exact h2⟩ (⟨(y 2).val, (y 2).isLt⟩ : Fin 256) := by blk_ext [index_4]
    have e' : (cfg0.win 4).xinj (cfg0.grid.coords t) y = ix3 (0 : Fin 1) (⟨(y 1).val, h1⟩ : Fin 32) (⟨(y 2).val, (y 2).isLt⟩ : Fin 256) := by
      funext a; apply Fin.ext
      match a with
      | ⟨0, _⟩ => exact Nat.lt_one_iff.mp h0
      | ⟨1, _⟩ => rfl
      | ⟨2, _⟩ => rfl
    blk_simp
    rw [after_4, e, e']
    refine (c1Of_apply _ _ _ _ _).trans (congrArg (fun x => logSig x - x) (gate_block m c t _ _ ?_ _))
    rfl
  rw [h]
  rfl

/-! ## The lines around the region -/

open Idealize.ShloMosaic.StableHlo

/-- The bias the region finds is the argument's. -/
theorem bias_in : V m c main_v0 (ix2 0 0) = m ((c : Thread nD τ).loc main_arg3) (ix1 0) := by
  have h (W : Valuation τ sig (Elt Ideal)) : (after ([hostOps0].flatten) W (main_v0 : DevRef τ sig) : S1x1.Idx → EReal) (ix2 0 0)
      = (W (main_arg3 : DevRef τ sig) : S1.Idx → EReal) (ix1 0) := by
    after_reads_at
  exact h _

/-- The controls' last axis has the first control at place zero -/
theorem joined_0 (W : Valuation τ sig (Elt Ideal)) (b : Fin 8) (r : Fin 255) (s : Fin 256) :
    (after ([hostOps1].flatten) W (main_v4 : DevRef τ sig) : S8x255x256x2.Idx → EReal) (ix4 b r s 0)
      = (W (main_v1_0 : DevRef τ sig) : S8x255x256.Idx → EReal) (ix3 b r s) := by
  after_reads_at

/-- and the second at place one. -/
theorem joined_1 (W : Valuation τ sig (Elt Ideal)) (b : Fin 8) (r : Fin 255) (s : Fin 256) :
    (after ([hostOps1].flatten) W (main_v4 : DevRef τ sig) : S8x255x256x2.Idx → EReal) (ix4 b r s 1)
      = (W (main_v1_1 : DevRef τ sig) : S8x255x256.Idx → EReal) (ix3 b r s) := by
  after_reads_at

/-- No array belongs to two windows. -/
theorem arrays_apart : Function.Injective (Pipeline.arrRef spec0) := by decide

/-- The controls after the run. -/
theorem tail_0 (b : Fin 8) (r : Fin 255) (s : Fin 256) :
    Pipeline.afterTail₀ cfgs (dats m) 0 (V0 m) [hostOps1] c main_v4 (ix4 b r s 0) = logSig (gateAt m c b (kept r) s) :=
  (joined_0 _ b r s).trans ((congrFun (Pipeline.withArrays_arr spec0 arrays_apart c (V0 m c) (fun w => (dats m 0 c).arrAt w cfg0.N) 3) _).trans (final_3 m c b r s))
theorem tail_1 (b : Fin 8) (r : Fin 255) (s : Fin 256) :
    Pipeline.afterTail₀ cfgs (dats m) 0 (V0 m) [hostOps1] c main_v4 (ix4 b r s 1) = logSig (gateAt m c b (kept r) s) - gateAt m c b (kept r) s :=
  (joined_1 _ b r s).trans ((congrFun (Pipeline.withArrays_arr spec0 arrays_apart c (V0 m c) (fun w => (dats m 0 c).arrAt w cfg0.N) 4) _).trans (final_4 m c b r s))

end Cert.KernelIdeal.Own

end
-- ==== Proof.R.Marks.lean ====
module

public import proofs.«01_k».proof.Defs
public import proofs.«01_k».proof.Proof.Gen.ReferenceIdeal
public import proofs.«01_k».proof.Proof.V.Spec
public import Idealize.ShloMosaic.Lib.Routing.OpsSet
public import Idealize.ShloMosaic.Lib.Routing.OpsPair

@[expose] public section

set_option maxRecDepth 16384

noncomputable section

/-!
The reference's four folds on whole arrays, read at an element: its arg-max, its running maximum, its scatter of ones, and its running sum.
-/

namespace Cert.ReferenceIdeal.Own

open Cert.ReferenceIdeal Cert.ReferenceIdeal.Gen Cert.Spec
open Idealize.ShloMosaic Idealize.ShloMosaic.WordCmp

/-! ## Folds of a list -/

/-- A value that absorbs every element of the list is where a fold starting at it stays; -/
theorem foldl_stays {α : Type} (f : α → α → α) (B : α) : ∀ L : List α, (∀ p ∈ L, f B p = B) → L.foldl f B = B
  | [], _ => rfl
  | p :: L, h => by
    rw [List.foldl_cons, h p (by simp)]
    exact foldl_stays f B L fun q hq => h q (by simp [hq])

/-- and a fold by an operation that returns one of its two arguments is that value, if the value is in the list and takes precedence on both sides. -/
theorem foldl_absorb {α : Type} (f : α → α → α) (B : α) (hf : ∀ a b, f a b = a ∨ f a b = b) :
    ∀ (L : List α) (r : α), B ∈ L → f r B = B → (∀ p ∈ L, f p B = B ∧ f B p = B) → L.foldl f r = B
  | [], _, hB, _, _ => nomatch hB
  | p :: L, r, hB, hr, h => by
    rw [List.foldl_cons]
    by_cases hp : B = p
    · rw [← hp, hr]
      exact foldl_stays f B L fun q hq => (h q (by simp [hq])).2
    · refine foldl_absorb f B hf L _ ((List.mem_cons.1 hB).resolve_left hp) ?_ fun q hq => h q (by simp [hq])
      rcases hf r p with e | e <;> rw [e]
      · exact hr
      · exact (h p (by simp)).1

/-! ## The arg-max -/

/-- The arg-max's body on extended reals: the larger key wins, and of two equal ones the smaller index. -/
theorem reducer_eq (a b : EReal × BitVec 32) :
    reducer_argmax_f32_i32 (F := Ideal) a b = if b.1 < a.1 ∨ (a.1 = b.1 ∧ a.2.toInt < b.2.toInt) then a else b := by
  rcases a with ⟨a1, a2⟩
  rcases b with ⟨b1, b2⟩
  rcases lt_trichotomy a1 b1 with h | h | h
  · have h1 : ¬ b1 < a1 := not_lt.2 h.le
    have h2 : a1 ≠ b1 := h.ne
    simp [reducer_argmax_f32_i32, Ideal.cmpf_def, Ideal.cmp, Scalar.select, IntOp.ori, IntOp.andi, cmpi_slt_eq, h1, h2]
  · subst h
    by_cases hi : a2.toInt < b2.toInt <;>
      simp [reducer_argmax_f32_i32, Ideal.cmpf_def, Ideal.cmp, Scalar.select, IntOp.ori, IntOp.andi, cmpi_slt_eq, hi]
  · have h1 : ¬ a1 < b1 := not_lt.2 h.le
    have h2 : a1 ≠ b1 := h.ne'
    simp [reducer_argmax_f32_i32, Ideal.cmpf_def, Ideal.cmp, Scalar.select, IntOp.ori, IntOp.andi, cmpi_slt_eq, h, h1, h2]

/-- Dropping the last axis keeps the first two coordinates. -/
theorem drop_eq (i : S8x256x256.Idx) : reducesTo_S8x256x256_S8x256_d2.drop i = ix2 (i 0) (i 1) :=
  funext fun a => Fin.ext (by
    match a with
    | ⟨0, _⟩ => exact reducesTo_S8x256x256_S8x256_d2.drop_apply_val_of_eq i 0 0
    | ⟨1, _⟩ => exact reducesTo_S8x256x256_S8x256_d2.drop_apply_val_of_eq i 1 1)

/-- The arg-max of a row is where the row is first greatest. -/
theorem argmax_apply (x : FVec Ideal S8x256x256 .f32) (b : Fin 8) (t : Fin 256) :
    (Host.argReduce reducer_argmax_f32_i32 x (iotaInDim S8x256x256 32 2) (constant (F := Ideal) S_ .f32 0xFF800000#32) (constantI S_ 32 0#32)
      reducesTo_S8x256x256_S8x256_d2 h_S_ (ix2 b t)).2 = BitVec.ofNat 32 (best fun s => x (ix3 b t s)).val := by
  have hb := best_is fun s => x (ix3 b t s)
  generalize best (fun s => x (ix3 b t s)) = B at hb
  have hmem : ∀ p ∈ Host.argReduceFiber x (iotaInDim S8x256x256 32 2) reducesTo_S8x256x256_S8x256_d2 (ix2 b t),
      ∃ s : Fin 256, p = (x (ix3 b t s), BitVec.ofNat 32 s.val) := fun p hp => by
    obtain ⟨n, hn, rfl⟩ := List.mem_map.1 hp
    have hd := (drop_eq _).symm.trans (of_decide_eq_true (List.mem_filter.1 hn).2)
    refine ⟨S8x256x256.rowMajor.symm n 2, ?_⟩
    have e : S8x256x256.rowMajor.symm n = ix3 b t (S8x256x256.rowMajor.symm n 2) := funext fun a => by
      match a with
      | ⟨0, _⟩ => exact congrFun hd 0
      | ⟨1, _⟩ => exact congrFun hd 1
      | ⟨2, _⟩ => rfl
    exact Prod.ext (congrArg x e) rfl
  have hB : (x (ix3 b t B), BitVec.ofNat 32 B.val) ∈ Host.argReduceFiber x (iotaInDim S8x256x256 32 2) reducesTo_S8x256x256_S8x256_d2 (ix2 b t) := by
    refine List.mem_map.2 ⟨S8x256x256.rowMajor (ix3 b t B), List.mem_filter.2 ⟨List.mem_finRange _, decide_eq_true ?_⟩, ?_⟩
    · rw [Equiv.symm_apply_apply]; exact drop_eq _
    · rw [Equiv.symm_apply_apply]; rfl
  have hf : ∀ p q : EReal × BitVec 32, reducer_argmax_f32_i32 (F := Ideal) p q = p ∨ reducer_argmax_f32_i32 (F := Ideal) p q = q := fun p q => by
    rw [reducer_eq]; split
    · exact .inl rfl
    · exact .inr rfl
  rw [Ideal.argReduce_eq_reduce2, Host.reduce2_eq_foldl_fiber, foldl_absorb reducer_argmax_f32_i32 (x (ix3 b t B), BitVec.ofNat 32 B.val) hf _ _ hB ?_ fun p hp => ?_]
  · rw [reducer_eq]
    refine if_neg ?_
    show ¬ (x (ix3 b t B) < Ideal.ofBits .f32 0xFF800000#32 ∨ (Ideal.ofBits .f32 0xFF800000#32 = x (ix3 b t B) ∧ (0#32 : BitVec 32).toInt < (BitVec.ofNat 32 B.val).toInt))
    rw [minusInf_bits, toInt_small (show B.val < 2 ^ 31 by omega)]
    rintro (h | ⟨h, h0⟩)
    · exact not_lt_bot h
    · exact not_lt_bot (lt_of_lt_of_eq (hb.2 0 (Fin.lt_def.2 (by change (0 : ℤ) < B.val at h0; show 0 < B.val; omega))) h.symm)
  · obtain ⟨s, rfl⟩ := hmem p hp
    simp only [reducer_eq, toInt_small (show s.val < 2 ^ 31 by omega), toInt_small (show B.val < 2 ^ 31 by omega), Nat.cast_lt]
    constructor
    · refine if_neg ?_
      rintro (h | ⟨h, h0⟩)
      · exact absurd (hb.1 s) (not_le.2 h)
      · exact (hb.2 s h0).ne h
    · split
      · rfl
      · rename_i hn
        have h1 : x (ix3 b t B) = x (ix3 b t s) := le_antisymm (not_lt.1 fun h => hn (.inl h)) (hb.1 s)
        have h2 : s.val = B.val := le_antisymm (not_lt.1 fun h => hn (.inr ⟨h1, h⟩)) (not_lt.1 fun h => (hb.2 s h).ne h1.symm)
        rw [Fin.ext h2]

/-! ## Windows that end at the element -/

/-- A window fold is a fold over the list of what its positions hold. -/
theorem window_fold {α : Type} {s t u : Shape} (f : α → α → α) (window strides lo hi : Fin s.rank → Nat) (x : s.Idx → α) (init : u.Idx → α)
    (h : s.ReduceWindows window strides lo hi t) (hu : 0 < u.numel) (j : t.Idx) :
    Host.reduceWindow f window strides lo hi x init h hu j
      = ((List.finRange (⟨s.rank, window⟩ : Shape).numel).map fun n =>
          if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a
            then x (fun a => ⟨_, (hin a).2⟩) else init (Shape.Idx.first hu)).foldl f (init (Shape.Idx.first hu)) := by
  unfold Host.reduceWindow; rw [List.foldl_map]; dsimp only; congr!

/-! ## The running maximum -/

/-- What a position of a row's window holds: the row's entry, or padding below its start. -/
theorem row_pad {α : Type} (x : S8x256.Idx → α) (v : α) (b : Fin 8) (t : Fin 256) (w : (⟨2, ![1, 256]⟩ : Shape).Idx) :
    (if hin : ∀ a : Fin 2, (![0, 255] : Fin 2 → ℕ) a ≤ ((ix2 b t : S8x256.Idx) a).val * (![1, 1] : Fin 2 → ℕ) a + (w a).val
        ∧ ((ix2 b t : S8x256.Idx) a).val * (![1, 1] : Fin 2 → ℕ) a + (w a).val - (![0, 255] : Fin 2 → ℕ) a < S8x256.size a
      then x (fun a => ⟨_, (hin a).2⟩) else v)
      = if h : 255 ≤ t.val + (w 1).val then x (ix2 b ⟨t.val + (w 1).val - 255, by have : (w 1).val < 256 := (w 1).isLt; omega⟩) else v := by
  have h0 : (w 0).val = 0 := Nat.lt_one_iff.1 (w 0).isLt
  have h1 : (w 1).val < 256 := (w 1).isLt
  by_cases h : 255 ≤ t.val + (w 1).val
  · rw [dif_pos h, dif_pos fun a => by
      match a with
      | ⟨0, _⟩ => show 0 ≤ b.val * 1 + (w 0).val ∧ b.val * 1 + (w 0).val - 0 < 8; omega
      | ⟨1, _⟩ => show 255 ≤ t.val * 1 + (w 1).val ∧ t.val * 1 + (w 1).val - 255 < 256; omega]
    refine congrArg x (funext fun a => Fin.ext ?_)
    match a with
    | ⟨0, _⟩ => show b.val * 1 + (w 0).val - 0 = b.val; omega
    | ⟨1, _⟩ => show t.val * 1 + (w 1).val - 255 = t.val + (w 1).val - 255; omega
  · rw [dif_neg h, dif_neg fun hin => h (by have := (hin 1).1; change 255 ≤ t.val * 1 + (w 1).val at this; omega)]

/-- The running maximum of a row of small naturals. -/
theorem cummax_apply (x : IVec S8x256 32) (m : Fin 256 → ℕ) (hm : ∀ t, m t < 256) (b : Fin 8) (hx : ∀ t : Fin 256, x (ix2 b t) = BitVec.ofNat 32 (m t)) (v : IVec S_ 32)
    (hv : ∀ i, v i = 2147483648#32) (t : Fin 256) :
    Host.reduceWindow IntOp.maxsi ![1, 256] ![1, 1] ![0, 255] ![0, 0] x v reduceWindows_S8x256_S8x256_w1s1p0_0_w256s1p255_0 h_S_ (ix2 b t)
      = BitVec.ofNat 32 (runMax m t) := by
  obtain ⟨r, hr, hrm⟩ := Finset.exists_mem_eq_sup (Finset.univ.filter fun r : Fin 256 => r.val ≤ t.val ∧ t.val < r.val + 256) ⟨t, by simp⟩ m
  replace hr := (Finset.mem_filter.1 hr).2
  have hneg : ∀ n < 256, IntOp.maxsi (2147483648#32) (BitVec.ofNat 32 n) = BitVec.ofNat 32 n ∧ IntOp.maxsi (BitVec.ofNat 32 n) (2147483648#32) = BitVec.ofNat 32 n := fun n hn =>
    ⟨by
      unfold IntOp.maxsi
      rw [if_neg]
      rw [BitVec.slt_iff_toInt_lt, toInt_small (by omega)]
      have : (2147483648#32 : BitVec 32).toInt < 0 := by decide
      omega, maxsi_negative (by omega) (by decide)⟩
  have hR : runMax m t < 256 := winMax_lt hm t 256
  rw [window_fold, hv]
  refine foldl_absorb IntOp.maxsi _ (fun p q => by unfold IntOp.maxsi; split <;> simp) _ _ ?_ (hneg _ hR).1 fun p hp => ?_
  · refine List.mem_map.2 ⟨(⟨2, ![1, 256]⟩ : Shape).rowMajor (ix2 0 ⟨255 - t.val + r.val, by omega⟩), List.mem_finRange _, ?_⟩
    refine (row_pad x _ b t _).trans ?_
    rw [Equiv.symm_apply_apply]
    refine (dif_pos (show 255 ≤ t.val + (255 - t.val + r.val) by omega)).trans ((congrArg x (congrArg (ix2 b) (Fin.ext ?_))).trans ((hx r).trans (congrArg (BitVec.ofNat 32) hrm.symm)))
    show t.val + (255 - t.val + r.val) - 255 = r.val
    omega
  · obtain ⟨n, -, rfl⟩ := List.mem_map.1 hp
    have hp' := row_pad x (2147483648#32) b t ((⟨2, ![1, 256]⟩ : Shape).rowMajor.symm n)
    refine hp' ▸ ?_
    split
    · rename_i h
      have hle : m ⟨t.val + ((⟨2, ![1, 256]⟩ : Shape).rowMajor.symm n 1).val - 255, by have : ((⟨2, ![1, 256]⟩ : Shape).rowMajor.symm n 1).val < 256 := Fin.isLt _; omega⟩ ≤ runMax m t :=
        Finset.le_sup (f := m) (Finset.mem_filter.2 ⟨Finset.mem_univ _, by
          have : ((⟨2, ![1, 256]⟩ : Shape).rowMajor.symm n 1).val < 256 := Fin.isLt _
          dsimp only; omega⟩)
      rw [hx, maxsi_small (by omega) (by omega), maxsi_small (by omega) (by omega), Nat.max_eq_right hle, Nat.max_eq_left hle]
      exact ⟨rfl, rfl⟩
    · exact hneg _ hR

/-! ## The scatter -/

/-- Where an update's window starts: its three index words, read signed. -/
theorem start_eq (idx : IVec S8x256x3 32) (k : S8x256.Idx) (a : Fin 3) :
    scatter_S8x256x256_S8x256x3_S8x256_n_012_012_2.start k idx a = (idx (ix3 (k 0) (k 1) a)).toInt := by
  unfold ScatterDims.start
  rw [dif_pos (by fin_cases a <;> decide)]
  refine congrArg (fun i => (idx i).toInt) (funext fun c => Fin.ext ?_)
  fin_cases a <;> fin_cases c <;> rfl

/-- Every window is one element. -/
theorem window_eq (k : S8x256.Idx) (a : Fin 3) : scatter_S8x256x256_S8x256x3_S8x256_n_012_012_2.window k a = 0 := by
  unfold ScatterDims.window
  exact dif_neg (by fin_cases a <;> decide)

/-- The scatter puts a one where the index words say, in each row. -/
theorem scatter_apply (idx : IVec S8x256x3 32) (m : Fin 8 → Fin 256 → ℕ) (hm : ∀ b t, m b t < 256)
    (h0 : ∀ b t, idx (ix3 b t 0) = BitVec.ofNat 32 b.val) (h1 : ∀ b t, idx (ix3 b t 1) = BitVec.ofNat 32 t.val) (h2 : ∀ b t, idx (ix3 b t 2) = BitVec.ofNat 32 (m b t))
    (x : FVec Ideal S8x256x256 .f32) (hx : ∀ i, x i = 0) (u : FVec Ideal S8x256 .f32) (hu : ∀ i, u i = 1) (b : Fin 8) (t s : Fin 256) :
    Host.scatter scatter_S8x256x256_S8x256x3_S8x256_n_012_012_2 (fun _ b => b) x idx u (ix3 b t s) = if s.val = m b t then 1 else 0 := by
  have hl : ∀ k : S8x256.Idx, scatter_S8x256x256_S8x256x3_S8x256_n_012_012_2.resultIdx? k idx = some (ix3 b t s) ↔ (k 0 = b ∧ k 1 = t ∧ m b t = s.val) := fun k => by
    obtain ⟨b', t', rfl⟩ : ∃ b' t', k = ix2 b' t' := ⟨k 0, k 1, funext fun a => by fin_cases a <;> rfl⟩
    have hk := hm b' t'
    rw [Routing.resultIdx?_eq_some]
    constructor
    · intro h
      have e : ∀ a : Fin 3, (idx (ix3 b' t' a)).toInt + 0 = ((ix3 b t s : S8x256x256.Idx) a).val := fun a => by
        have := h a
        rwa [start_eq, window_eq] at this
      have e0 := e 0
      have e1 := e 1
      have e2 := e 2
      rw [h0, toInt_small (by omega)] at e0
      rw [h1, toInt_small (by omega)] at e1
      rw [h2, toInt_small (by omega)] at e2
      have f0 : b' = b := Fin.ext (by change (b'.val : ℤ) + 0 = b.val at e0; omega)
      have f1 : t' = t := Fin.ext (by change (t'.val : ℤ) + 0 = t.val at e1; omega)
      rw [f0, f1] at e2
      exact ⟨f0, f1, by change (m b t : ℤ) + 0 = s.val at e2; omega⟩
    · rintro ⟨f0, f1, f2⟩ a
      have hb := hm b t
      rw [start_eq, window_eq, f0, f1]
      match a with
      | ⟨0, _⟩ => exact (congrArg (fun w : BitVec 32 => w.toInt + 0) (h0 b t)).trans (by rw [toInt_small (by omega)]; rfl)
      | ⟨1, _⟩ => exact (congrArg (fun w : BitVec 32 => w.toInt + 0) (h1 b t)).trans (by rw [toInt_small (by omega)]; rfl)
      | ⟨2, _⟩ => exact (congrArg (fun w : BitVec 32 => w.toInt + 0) (h2 b t)).trans (by rw [toInt_small (by omega), f2]; rfl)
  by_cases h : s.val = m b t
  · rw [if_pos h]
    exact Routing.scatter_set_hit _ x idx u _ 1 (fun k _ => hu k) (ix2 b t) ((hl _).2 ⟨rfl, rfl, h.symm⟩)
  · rw [if_neg h, Routing.scatter_set_miss _ x idx u _ fun k hk => h ((hl k).1 hk).2.2.symm, hx]

/-! ## The running sum -/

/-- What a position of a row's window holds: the row's entry, or padding below its start. -/
theorem row3_pad {α : Type} (x : S8x256x256.Idx → α) (v : α) (b : Fin 8) (t s : Fin 256) (w : (⟨3, ![1, 1, 256]⟩ : Shape).Idx) :
    (if hin : ∀ a : Fin 3, (![0, 0, 255] : Fin 3 → ℕ) a ≤ ((ix3 b t s : S8x256x256.Idx) a).val * (![1, 1, 1] : Fin 3 → ℕ) a + (w a).val
        ∧ ((ix3 b t s : S8x256x256.Idx) a).val * (![1, 1, 1] : Fin 3 → ℕ) a + (w a).val - (![0, 0, 255] : Fin 3 → ℕ) a < S8x256x256.size a
      then x (fun a => ⟨_, (hin a).2⟩) else v)
      = if h : 255 ≤ s.val + (w 2).val then x (ix3 b t ⟨s.val + (w 2).val - 255, by have : (w 2).val < 256 := (w 2).isLt; omega⟩) else v := by
  have h0 : (w 0).val = 0 := Nat.lt_one_iff.1 (w 0).isLt
  have h1 : (w 1).val = 0 := Nat.lt_one_iff.1 (w 1).isLt
  have h2 : (w 2).val < 256 := (w 2).isLt
  by_cases h : 255 ≤ s.val + (w 2).val
  · rw [dif_pos h, dif_pos fun a => by
      match a with
      | ⟨0, _⟩ => show 0 ≤ b.val * 1 + (w 0).val ∧ b.val * 1 + (w 0).val - 0 < 8; omega
      | ⟨1, _⟩ => show 0 ≤ t.val * 1 + (w 1).val ∧ t.val * 1 + (w 1).val - 0 < 256; omega
      | ⟨2, _⟩ => show 255 ≤ s.val * 1 + (w 2).val ∧ s.val * 1 + (w 2).val - 255 < 256; omega]
    refine congrArg x (funext fun a => Fin.ext ?_)
    match a with
    | ⟨0, _⟩ => show b.val * 1 + (w 0).val - 0 = b.val; omega
    | ⟨1, _⟩ => show t.val * 1 + (w 1).val - 0 = t.val; omega
    | ⟨2, _⟩ => show s.val * 1 + (w 2).val - 255 = s.val + (w 2).val - 255; omega
  · rw [dif_neg h, dif_neg fun hin => h (by have := (hin 2).1; change 255 ≤ s.val * 1 + (w 2).val at this; omega)]

/-- A sum over a list with no repetition of a function that is one at a single place: one if the place is in the list, zero if no place is. -/
theorem foldl_add_single {ι : Type} [DecidableEq ι] (i : ι) (p : Prop) [Decidable p] (f : ι → EReal) (hf : ∀ j, f j = if j = i ∧ p then 1 else 0) :
    ∀ (L : List ι) (r : EReal), L.Nodup → (L.map f).foldl (· + ·) r = r + if i ∈ L ∧ p then 1 else 0
  | [], r, _ => by simp
  | j :: L, r, h => by
    rw [List.map_cons, List.foldl_cons, foldl_add_single i p f hf L _ (List.nodup_cons.1 h).2, hf]
    by_cases hp : p
    · by_cases e : j = i
      · subst e; simp [hp, (List.nodup_cons.1 h).1]
      · simp [e, hp, Ne.symm e]
    · simp [hp]

/-- The running sum of a row with a single one is one from there on. -/
theorem cumsum_apply (x : FVec Ideal S8x256x256 .f32) (m : ℕ) (hm : m < 256) (b : Fin 8) (t : Fin 256) (hx : ∀ s : Fin 256, x (ix3 b t s) = if s.val = m then 1 else 0)
    (v : FVec Ideal S_ .f32) (hv : ∀ i, v i = 0) (s : Fin 256) :
    Host.reduceWindowAdd ![1, 1, 256] ![1, 1, 1] ![0, 0, 255] ![0, 0, 0] x v reduceWindows_S8x256x256_S8x256x256_w1s1p0_0_w1s1p0_0_w256s1p255_0 h_S_ (ix3 b t s)
      = if m ≤ s.val then 1 else 0 := by
  unfold Host.reduceWindowAdd
  rw [hv, Ideal.hostReduceWindowAdd_def, Ideal.hostReduceWindowAdd, window_fold]
  let W : Shape := ⟨3, ![1, 1, 256]⟩
  refine (foldl_add_single (W.rowMajor (ix3 0 0 ⟨(255 - s.val + m) % 256, Nat.mod_lt _ (by norm_num)⟩)) (m ≤ s.val) _ (fun n => (row3_pad x 0 b t s (W.rowMajor.symm n)).trans ?_) _ _
    (List.nodup_finRange _)).trans ?_
  · have w0 : (W.rowMajor.symm n 0).val < 1 := Fin.isLt _
    have w1 : (W.rowMajor.symm n 1).val < 1 := Fin.isLt _
    have w2 : (W.rowMajor.symm n 2).val < 256 := Fin.isLt _
    have hn : n = W.rowMajor (ix3 0 0 ⟨(255 - s.val + m) % 256, Nat.mod_lt _ (by norm_num)⟩) ↔ (W.rowMajor.symm n 2).val = (255 - s.val + m) % 256 := by
      rw [← Equiv.symm_apply_eq]
      refine ⟨fun e => congrArg Fin.val (congrFun e 2), fun e => funext fun a => Fin.ext ?_⟩
      match a with
      | ⟨0, _⟩ => exact Nat.lt_one_iff.1 w0
      | ⟨1, _⟩ => exact Nat.lt_one_iff.1 w1
      | ⟨2, _⟩ => exact e
    rw [if_congr (and_congr_left fun _ => hn) rfl rfl]
    split
    · rw [hx]
      refine if_congr ?_ rfl rfl
      dsimp only
      omega
    · rw [if_neg (by omega)]
  · simp [List.mem_finRange]

end Cert.ReferenceIdeal.Own

end
-- ==== Proof.R.Value.lean ====
module

public import proofs.«01_k».proof.Proof.R.Line
public import proofs.«01_k».proof.Proof.R.Marks
public import Idealize.ShloMosaic.Lib.StableHlo.ReadAt

@[expose] public section

set_option maxRecDepth 16384

noncomputable section

/-!
What the reference leaves in its results, element by element.
-/

namespace Cert.ReferenceIdeal.Own

open Cert.ReferenceIdeal Cert.ReferenceIdeal.Gen Cert.Spec
open Idealize.ShloMosaic Idealize.ShloMosaic.TcCoe Idealize.ShloMosaic.StableHlo Idealize.SL.Sem

/-- The operations from the `n`th on, after the first `n`. -/
theorem after_cut {F : FTy → Type} (l : List (HloOp τ sig (Elt F))) (n : ℕ) (V : Valuation τ sig (Elt F)) :
    after l V = after (l.drop n) (after (l.take n) V) := by
  conv_lhs => rw [← List.take_append_drop n l]
  induction l.take n generalizing V with
  | nil => rfl
  | cons op l ih => exact ih _

/-! ## The controls -/

/-- One score of the reference. -/
def scoreAt (V : Valuation τ sig (Elt Ideal)) (b : Fin 8) (t s : Fin 256) : EReal :=
  score (fun k => (V (main_arg2 : DevRef τ sig) : S1x128.Idx → EReal) (ix2 0 k)) ((V (main_arg3 : DevRef τ sig) : S1.Idx → EReal) (ix1 0))
    fun k => (V (main_arg0 : DevRef τ sig) : S8x256x256x128.Idx → EReal) (ix4 b t s k)

theorem sig_read (V : Valuation τ sig (Elt Ideal)) (b : Fin 8) (t s : Fin 256) :
    (after (ops.take 22) V (main_v5 : DevRef τ sig) : S8x256x256x1.Idx → EReal) (ix4 b t s 0) = logSig (scoreAt V b t s) := by
  unfold ops; after_reads_at
  rw [if_neg fun h => h rfl]; rfl

theorem sig_less_read (V : Valuation τ sig (Elt Ideal)) (b : Fin 8) (t s : Fin 256) :
    (after (ops.take 22) V (main_v6 : DevRef τ sig) : S8x256x256x1.Idx → EReal) (ix4 b t s 0) = logSig (scoreAt V b t s) - scoreAt V b t s := by
  unfold ops; after_reads_at
  rw [if_neg fun h => h rfl]; rfl

theorem controls0 (V : Valuation τ sig (Elt Ideal)) (b : Fin 8) (t : Fin 255) (s : Fin 256) :
    (after ops V (main_v50 : DevRef τ sig) : S8x255x256x2.Idx → EReal) (ix4 b t s 0) = logSig (scoreAt V b ⟨t.val, by omega⟩ s) := by
  rw [after_cut _ 22, ← sig_read]
  generalize after (ops.take 22) V = W
  unfold ops; after_reads_at
  rfl
theorem controls1 (V : Valuation τ sig (Elt Ideal)) (b : Fin 8) (t : Fin 255) (s : Fin 256) :
    (after ops V (main_v50 : DevRef τ sig) : S8x255x256x2.Idx → EReal) (ix4 b t s 1) = logSig (scoreAt V b ⟨t.val, by omega⟩ s) - scoreAt V b ⟨t.val, by omega⟩ s := by
  rw [after_cut _ 22, ← sig_less_read]
  generalize after (ops.take 22) V = W
  unfold ops; after_reads_at
  rfl

/-! ## The marks -/

/-- The scores less their penalties, as the reference composes them. -/
def keys (x : FVec Ideal S8x256x256 .f32) : FVec Ideal S8x256x256 .f32 :=
  subf x (broadcastInDim S8x256x256 ![0, 1, 2] bcast_S1x1x256_S8x256x256_0_1_2
    (mulf (broadcastInDim S1x1x256 ![] bcast_S_S1x1x256 (constant S_ .f32 0x3DCCCCCD#32))
      (broadcastInDim S1x1x256 ![2] bcast_S256_S1x1x256_2
        (Host.divf (sitofp .f32 (iotaInDim S256 32 0)) (broadcastInDim S256 ![] bcast_S_S256 (constant S_ .f32 0x43800000#32))))))

theorem keys_apply (x : FVec Ideal S8x256x256 .f32) (b : Fin 8) (t s : Fin 256) : keys x (ix3 b t s) = key (x (ix3 b t s)) s := by
  unfold keys key
  pointwise

/-- The rows' first maxima, as the reference's index words. -/
def marks (x : FVec Ideal S8x256x256 .f32) : IVec S8x256 32 := fun j =>
  (Host.argReduce reducer_argmax_f32_i32 (keys x) (iotaInDim S8x256x256 32 2) (constant (F := Ideal) S_ .f32 0xFF800000#32) (constantI S_ 32 0#32)
    reducesTo_S8x256x256_S8x256_d2 h_S_ j).2

/-- The rows' first maxima, as naturals. -/
def bests (x : FVec Ideal S8x256x256 .f32) (b : Fin 8) (t : Fin 256) : ℕ := (best fun s => key (x (ix3 b t s)) s).val
theorem bests_lt (x : FVec Ideal S8x256x256 .f32) (b : Fin 8) (t : Fin 256) : bests x b t < 256 := (best _).isLt

theorem marks_apply (x : FVec Ideal S8x256x256 .f32) (b : Fin 8) (t : Fin 256) : marks x (ix2 b t) = BitVec.ofNat 32 (bests x b t) := by
  refine (argmax_apply (keys x) b t).trans ?_
  simp only [keys_apply]
  rfl

/-- Their running maximum, as the reference composes it. -/
def running (x : FVec Ideal S8x256x256 .f32) : IVec S8x256 32 :=
  Host.reduceWindow IntOp.maxsi ![1, 256] ![1, 1] ![0, 255] ![0, 0] (marks x) (broadcastInDim S_ ![] bcast_S_S_ (constantI S_ 32 2147483648#32))
    reduceWindows_S8x256_S8x256_w1s1p0_0_w256s1p255_0 h_S_

theorem running_apply (x : FVec Ideal S8x256x256 .f32) (b : Fin 8) (t : Fin 256) : running x (ix2 b t) = BitVec.ofNat 32 (runMax (bests x b) t) :=
  cummax_apply (marks x) (bests x b) (bests_lt x b) b (marks_apply x b) _ (fun _ => rfl) t

/-- The scatter's operand is zero, -/
theorem zeros_read (V : Valuation τ sig (Elt Ideal)) (b : Fin 8) (t s : Fin 256) :
    (after (ops.take 73) V (main_v22 : DevRef τ sig) : S8x256x256.Idx → EReal) (ix3 b t s) = (0 : EReal) := by
  unfold ops; after_reads_at

/-- its first index is the batch, -/
theorem batch_read (V : Valuation τ sig (Elt Ideal)) (b : Fin 8) (t : Fin 256) :
    (after (ops.take 73) V (main_v40 : DevRef τ sig) : S8x256x1.Idx → BitVec 32) (ix3 b t 0) = BitVec.ofNat 32 b.val := by
  unfold ops; after_reads_at
  exact Routing.wrap_of_lt _ _ (by simp; omega)

/-- its second the row, -/
theorem row_read (V : Valuation τ sig (Elt Ideal)) (b : Fin 8) (t : Fin 256) :
    (after (ops.take 73) V (main_v41 : DevRef τ sig) : S8x256x1.Idx → BitVec 32) (ix3 b t 0) = BitVec.ofNat 32 t.val := by
  unfold ops; after_reads_at
  exact Routing.wrap_of_lt _ _ (by simp; omega)

/-- and its third the running maximum. -/
theorem mark_read (V : Valuation τ sig (Elt Ideal)) (b : Fin 8) (t : Fin 256) :
    (after (ops.take 73) V (main_v42 : DevRef τ sig) : S8x256x1.Idx → BitVec 32) (ix3 b t 0)
      = BitVec.ofNat 32 (runMax (bests (V (main_arg1 : DevRef τ sig)) b) t) := by
  rw [← running_apply]
  have hr : (running (V (main_arg1 : DevRef τ sig)) (ix2 b t)).toNat < 2 ^ 31 := by
    have := winMax_lt (bests_lt (V (main_arg1 : DevRef τ sig)) b) t 256
    rw [running_apply, BitVec.toNat_ofNat]; unfold runMax; omega
  refine Eq.trans ?_ (Routing.wrap_of_lt _ (IntOp.addi (running (V (main_arg1 : DevRef τ sig)) (ix2 b t)) 256#32) hr)
  unfold ops; after_reads_at
  rfl

/-- Gamma. -/
theorem gamma_read (V : Valuation τ sig (Elt Ideal)) (b : Fin 8) (t s : Fin 256) :
    (after ops V (main_v46 : DevRef τ sig) : S8x256x256.Idx → EReal) (ix3 b t s) = onOff (bests (V (main_arg1 : DevRef τ sig)) b) t s := by
  rw [after_cut _ 73]
  have hz := zeros_read V
  have h0 := batch_read V
  have h1 := row_read V
  have h2 := mark_read V
  have hm : ∀ b t, runMax (bests (V (main_arg1 : DevRef τ sig)) b) t < 256 := fun b t => winMax_lt (bests_lt _ b) t 256
  generalize after (ops.take 73) V = W at hz h0 h1 h2 ⊢
  unfold ops; after_reads_simp
  simp -implicitDefEqProofs only [StableHlo.TRef.toBuf, StableHlo.TRef.ofBuf, cast_cast, cast_eq]
  refine cumsum_apply _ _ (hm b t) b t (fun s => scatter_apply _ (fun b t => runMax (bests (V (main_arg1 : DevRef τ sig)) b) t) hm (fun b t => ?_) (fun b t => ?_) (fun b t => ?_)
    _ (fun i => ?_) _ (fun i => ?_) b t s) _ (fun i => ?_) s
  · refine Eq.trans ?_ (h0 b t); pointwise; rfl
  · refine Eq.trans ?_ (h1 b t); pointwise; rfl
  · refine Eq.trans ?_ (h2 b t); pointwise; rfl
  · exact (congrArg (W (main_v22 : DevRef τ sig)) (eq_ix3 i)).trans (hz _ _ _)
  · pointwise
  · pointwise

/-- The write weights are gamma's rows from the second on, -/
theorem write_read (V : Valuation τ sig (Elt Ideal)) (b : Fin 8) (t : Fin 255) (s : Fin 256) :
    (after ops V (main_v47 : DevRef τ sig) : S8x255x256.Idx → EReal) (ix3 b t s) = onOff (bests (V (main_arg1 : DevRef τ sig)) b) ⟨1 + t.val, by omega⟩ s := by
  rw [← gamma_read, after_cut _ 80]
  generalize after (ops.take 80) V = W
  unfold ops; after_reads_at

/-- and the read weights are one less those. -/
theorem read_read (V : Valuation τ sig (Elt Ideal)) (b : Fin 8) (t : Fin 255) (s : Fin 256) :
    (after ops V (main_v49 : DevRef τ sig) : S8x255x256.Idx → EReal) (ix3 b t s) = 1 - onOff (bests (V (main_arg1 : DevRef τ sig)) b) ⟨1 + t.val, by omega⟩ s := by
  rw [← gamma_read, after_cut _ 80]
  generalize after (ops.take 80) V = W
  unfold ops; after_reads_at

end Cert.ReferenceIdeal.Own

end
-- ==== Proof.V.Equal.lean ====
module

public import proofs.«01_k».proof.Proof.V.Arrays
public import proofs.«01_k».proof.Proof.R.Value
public import proofs.«01_k».proof.Defs

@[expose] public section

set_option maxRecDepth 16384

noncomputable section

/-!
The kernel's results are the reference's, on equal arguments.
-/

open Idealize.ShloMosaic Idealize.SL.Sem

namespace Cert.Own

open Idealize.ShloMosaic Idealize.ShloMosaic.TcCoe Idealize.ShloMosaic.StableHlo Idealize.SL.Sem
open Cert.Spec
open Cert.KernelIdeal.Own (kept past gateAt bestsIn dats)

-- A memory of the kernel's program and one of the reference's.
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two memories hold the same arguments. -/
def Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)

/-- What the reference's line leaves in a buffer. -/
abbrev left (b : Ref ReferenceIdeal.sig .tc) : Buf (Elt Ideal) ((c.tc : Thread ReferenceIdeal.nD ReferenceIdeal.τ).loc b) :=
  after (ReferenceIdeal.Own.ops (F := Ideal)) (launchContents m' c) (Proc.devRef .tc b)

variable {m m' c} (h : Agree m m' c)
include h

/-- The two score every position alike, -/
theorem scores_agree (b : Fin 8) (t s : Fin 256) : ReferenceIdeal.Own.scoreAt (launchContents m' c) b t s = gateAt m c b t s := by
  unfold ReferenceIdeal.Own.scoreAt gateAt
  rw [KernelIdeal.Own.bias_in, KernelIdeal.Gen.V_main_arg0, KernelIdeal.Gen.V_main_arg2]
  exact congrArg₂ (fun f g => f g) (congrArg₂ (fun w b => score w b) (funext fun k => congrFun h.2.2.1 (ix2 0 k)) (congrFun h.2.2.2 (ix1 0)))
    (funext fun k => congrFun h.1 (ix4 b t s k))

/-- and find the same first maxima. -/
theorem bests_agree (b : Fin 8) :
    ReferenceIdeal.Own.bests (launchContents m' c (Proc.devRef .tc ReferenceIdeal.main_arg1)) b = bestsIn (KernelIdeal.Gen.V m c KernelIdeal.main_arg1) b := by
  rw [KernelIdeal.Gen.V_main_arg1]
  exact congrArg (fun x : Vec Ideal KernelIdeal.S8x256x256 .f32 => bestsIn x b) h.2.1

/-- The controls are equal, -/
theorem controls_agree : left m' c ReferenceIdeal.main_v50
    = Pipeline.afterTail₀ KernelIdeal.cfgs (dats m) 0 (KernelIdeal.Gen.V0 m) [KernelIdeal.Gen.hostOps1] c KernelIdeal.main_v4 := by
  funext j
  obtain ⟨b, t, s, k, rfl⟩ : ∃ (b : Fin 8) (t : Fin 255) (s : Fin 256) (k : Fin 2), j = ix4 b t s k := ⟨j 0, j 1, j 2, j 3, eq_ix4 j⟩
  match k with
  | ⟨0, _⟩ =>
    refine (ReferenceIdeal.Own.controls0 _ b t s).trans (Eq.trans ?_ (KernelIdeal.Own.tail_0 m c b t s).symm)
    rw [scores_agree h]; rfl
  | ⟨1, _⟩ =>
    refine (ReferenceIdeal.Own.controls1 _ b t s).trans (Eq.trans ?_ (KernelIdeal.Own.tail_1 m c b t s).symm)
    rw [scores_agree h]; rfl

/-- gamma is, -/
theorem gamma_agree : left m' c ReferenceIdeal.main_v46 = (dats m 0 c).arrAt 5 KernelIdeal.cfg0.N := by
  funext j
  obtain ⟨b, t, s, rfl⟩ : ∃ (b : Fin 8) (t s : Fin 256), j = ix3 b t s := ⟨j 0, j 1, j 2, eq_ix3 j⟩
  refine (ReferenceIdeal.Own.gamma_read _ b t s).trans (Eq.trans ?_ (KernelIdeal.Own.final_5 m c b t s).symm)
  rw [bests_agree h]

/-- the read weights are, -/
theorem read_agree : left m' c ReferenceIdeal.main_v49 = (dats m 0 c).arrAt 6 KernelIdeal.cfg0.N := by
  funext j
  obtain ⟨b, t, s, rfl⟩ : ∃ (b : Fin 8) (t : Fin 255) (s : Fin 256), j = ix3 b t s := ⟨j 0, j 1, j 2, eq_ix3 j⟩
  refine (ReferenceIdeal.Own.read_read _ b t s).trans (Eq.trans ?_ (KernelIdeal.Own.final_6 m c b t s).symm)
  rw [bests_agree h]; rfl

/-- and the write weights are. -/
theorem write_agree : left m' c ReferenceIdeal.main_v47 = (dats m 0 c).arrAt 7 KernelIdeal.cfg0.N := by
  funext j
  obtain ⟨b, t, s, rfl⟩ : ∃ (b : Fin 8) (t : Fin 255) (s : Fin 256), j = ix3 b t s := ⟨j 0, j 1, j 2, eq_ix3 j⟩
  refine (ReferenceIdeal.Own.write_read _ b t s).trans (Eq.trans ?_ (KernelIdeal.Own.final_7 m c b t s).symm)
  rw [bests_agree h]; rfl

end Cert.Own

/-- The two programs run, and from equal arguments end with equal results. -/
theorem Cert.Own.algebraic :
    Cert.algebraic_KernelIdeal_ReferenceIdeal (hKernelIdeal := Cert.KernelIdeal.Gen.facts) (hReferenceIdeal := Cert.ReferenceIdeal.Gen.facts) := fun m g m' g' _ h =>
  ⟨_, _, _, _,
    (θ_run (Cert.KernelIdeal.defs (F := Ideal)) _ _).mono (fun r p c =>
      ⟨(p.1 c).2 Cert.KernelIdeal.main_v4 (Pipeline.mem_restRefs_of Cert.KernelIdeal.main_v4 (by decide) (by decide)),
        (p.1 c).1 5, (p.1 c).1 6, (p.1 c).1 7, Cert.KernelIdeal.Own.args_stay m p.1 c⟩) (Cert.KernelIdeal.Own.run_all m g),
    (θ_run (Cert.ReferenceIdeal.defs (F := Ideal)) _ _).mono (fun r p c =>
      ⟨(p c Cert.ReferenceIdeal.main_v50).trans (Cert.Own.controls_agree (h c)), (p c Cert.ReferenceIdeal.main_v46).trans (Cert.Own.gamma_agree (h c)),
        (p c Cert.ReferenceIdeal.main_v49).trans (Cert.Own.read_agree (h c)), (p c Cert.ReferenceIdeal.main_v47).trans (Cert.Own.write_agree (h c)),
        (p c Cert.ReferenceIdeal.main_arg0).trans (Cert.ReferenceIdeal.Own.arg0_stays _), (p c Cert.ReferenceIdeal.main_arg1).trans (Cert.ReferenceIdeal.Own.arg1_stays _),
        (p c Cert.ReferenceIdeal.main_arg2).trans (Cert.ReferenceIdeal.Own.arg2_stays _), (p c Cert.ReferenceIdeal.main_arg3).trans (Cert.ReferenceIdeal.Own.arg3_stays _)⟩)
      (Cert.ReferenceIdeal.Own.run_line (F := Ideal) m' g')⟩

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Same
public import proofs.«01_k».proof.Proof.R.Line
public import proofs.«01_k».proof.Proof.V.Equal

@[expose] public section

noncomputable section

/-!
The certificate's claim, from the kernel's run (K/Run.lean, carried to the machine's floats by K/Same.lean), the
reference's (R/Line.lean) and the equality of their results (V/Equal.lean).
-/

namespace Cert.Proof

open Idealize.ShloMosaic Idealize.SL.Sem

/-- The three frames; the kernel's ideal program is its own text; and it and the reference end with equal results. -/
theorem claim : Cert.Claim := ⟨Cert.Kernel.Gen.facts, Cert.KernelIdeal.Gen.facts, Cert.ReferenceIdeal.Gen.facts,
  Cert.kernel_frame, Cert.ideal_frame, Cert.ReferenceIdeal.Own.reference_frame, trivial, Cert.Own.algebraic⟩

end Cert.Proof

end
